-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  IdealRules.named_const.Statement Cert.KernelIdeal.κ "q_scale" .f32 0x3E0293EE#32 (((Real.log 2)⁻¹ * (11863283 / 134217728) : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal_pre_finite_ffn [hFfnIdeal : Cert.FfnIdeal.Facts] [hFfnReferenceIdeal : Cert.FfnReferenceIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite_ffn m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite_ffn (hFfnIdeal := hFfnIdeal) (hFfnReferenceIdeal := hFfnReferenceIdeal) (hPre_finite_ffn := hPre_finite_ffn)
-- ==== Pre_finite.lean ====
abbrev S8x2048x4x128 : Shape := ⟨4, ![8, 2048, 4, 128]⟩
abbrev S_ : Shape := ⟨0, ![]⟩

class Facts : Prop where
  bcast_S_S8x2048x4x128 : S_.BroadcastsInDim S8x2048x4x128 (![] : Fin 0 → Fin S8x2048x4x128.rank)

variable [Facts]

def fn {F : FTy → Type} [FloatOps F] (main_arg0 : FVec F S8x2048x4x128 .f32) (main_arg1 : FVec F S8x2048x4x128 .f32) (main_arg2 : FVec F S8x2048x4x128 .f32) : IVec S8x2048x4x128 1 × IVec S8x2048x4x128 1 :=
  let main_v0 : FVec F S8x2048x4x128 .f32 := Host.absf main_arg0
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_v3 : FVec F S8x2048x4x128 .f32 := Host.absf main_arg1
  let main_cst_0 : FVec F S_ .f32 := constant S_ .f32 0x7F800000#32
  let main_v4 : FVec F S8x2048x4x128 .f32 := broadcastInDim S8x2048x4x128 ![] bcast_S_S8x2048x4x128 main_cst_0
  let main_v5 : IVec S8x2048x4x128 1 := cmpf .olt main_v3 main_v4
  (main_v2, main_v5)
-- ==== Pre_finite_ffn.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8x2048x1024 : S_.BroadcastsInDim S8x2048x1024 (![] : Fin 0 → Fin S8x2048x1024.rank)
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S8x2048x1024 .f32) (main_arg1 : FVec F S1024 .f32) (main_arg2 : FVec F S1024x2816 .f32) (main_arg3 : FVec F S1024x2816 .f32) (main_arg4 : FVec F S2816x1024 .f32) (main_arg5 : FVec F S1024 .f32) : IVec S8x2048x1024 1 × IVec S1024 1 × IVec S1024x2816 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  (main_v2, main_v5, main_v8)
-- ==== Kernel.lean ====
abbrev S8x2048x4x128 : Shape := ⟨4, ![8, 2048, 4, 128]⟩
abbrev S8x2048x512 : Shape := ⟨3, ![8, 2048, 512]⟩
abbrev S8x2048x1536 : Shape := ⟨3, ![8, 2048, 1536]⟩
abbrev S4096x6144 : Shape := ⟨2, ![4096, 6144]⟩
abbrev S8x512x6144 : Shape := ⟨3, ![8, 512, 6144]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128 : Shape := ⟨2, ![1, 128]⟩
abbrev S128x128 : Shape := ⟨2, ![128, 128]⟩
abbrev S8x512x2048 : Shape := ⟨3, ![8, 512, 2048]⟩
abbrev S8x512x512 : Shape := ⟨3, ![8, 512, 512]⟩
abbrev S1x512x6144 : Shape := ⟨3, ![1, 512, 6144]⟩
abbrev S1x512x2048 : Shape := ⟨3, ![1, 512, 2048]⟩
abbrev S1x512x512 : Shape := ⟨3, ![1, 512, 512]⟩
abbrev S1x128x128 : Shape := ⟨3, ![1, 128, 128]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 47
  | .vmem => 8
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x128, .f32⟩
  | .hbm, ⟨2, _⟩ => ⟨S8x2048x4x128, .f32⟩
  | .hbm, ⟨3, _⟩ => ⟨S8x2048x512, .f32⟩
  | .hbm, ⟨4, _⟩ => ⟨S8x2048x512, .bf16⟩
  | .hbm, ⟨5, _⟩ => ⟨S8x2048x512, .f32⟩
  | .hbm, ⟨6, _⟩ => ⟨S8x2048x512, .bf16⟩
  | .hbm, ⟨7, _⟩ => ⟨S8x2048x512, .f32⟩
  | .hbm, ⟨8, _⟩ => ⟨S8x2048x512, .bf16⟩
  | .hbm, ⟨9, _⟩ => ⟨S8x2048x1536, .bf16⟩
  | .hbm, ⟨10, _⟩ => ⟨S4096x6144, .bf16⟩
  | .hbm, ⟨11, _⟩ => ⟨S8x512x6144, .bf16⟩
  | .hbm, ⟨12, _⟩ => ⟨S128, .i32⟩
  | .hbm, ⟨13, _⟩ => ⟨S128x1, .i32⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S1x256, .i32⟩
  | .hbm, ⟨18, _⟩ => ⟨S1x256, .i1⟩
  | .hbm, ⟨19, _⟩ => ⟨S128x256, .i32⟩
  | .hbm, ⟨20, _⟩ => ⟨S128x256, .i32⟩
  | .hbm, ⟨21, _⟩ => ⟨S128x256, .i1⟩
  | .hbm, ⟨22, _⟩ => ⟨S_, .i32⟩
  | .hbm, ⟨23, _⟩ => ⟨S1x256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i1⟩
  | .hbm, ⟨28, _⟩ => ⟨S128x256, .i1⟩
  | .hbm, ⟨29, _⟩ => ⟨S128x256, .i1⟩
  | .hbm, ⟨30, _⟩ => ⟨S128, .i32⟩
  | .hbm, ⟨31, _⟩ => ⟨S1x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S8x512x2048, .bf16⟩
  | .hbm, ⟨46, _⟩ => ⟨S8x512x512, .f32⟩
  | .local _ .vmem, ⟨0, _⟩ => ⟨S1x512x6144, .bf16⟩
  | .local _ .vmem, ⟨1, _⟩ => ⟨S1x512x6144, .bf16⟩
  | .local _ .vmem, ⟨2, _⟩ => ⟨S128x256, .f32⟩
  | .local _ .vmem, ⟨3, _⟩ => ⟨S128x128, .f32⟩
  | .local _ .vmem, ⟨4, _⟩ => ⟨S1x512x2048, .bf16⟩
  | .local _ .vmem, ⟨5, _⟩ => ⟨S1x512x2048, .bf16⟩
  | .local _ .vmem, ⟨6, _⟩ => ⟨S1x512x512, .f32⟩
  | .local _ .vmem, ⟨7, _⟩ => ⟨S1x512x512, .f32⟩
  | _, _ => ⟨S8x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call0_v0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_v29 : Ref sig .tc := ⟨.hbm, 39, rfl⟩
abbrev main_cst_2 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "q_scale" => some (((Real.log 2)⁻¹ * (11863283 / 134217728) : ℝ) : EReal)
  | _ => none
-- ==== ReferenceIdeal.lean ====
abbrev S8x2048x4x128 : Shape := ⟨4, ![8, 2048, 4, 128]⟩
abbrev S8x512x4x4x128 : Shape := ⟨5, ![8, 512, 4, 4, 128]⟩
abbrev S_ : Shape := ⟨0, ![]⟩
abbrev S8x4x128x4x4x128 : Shape := ⟨6, ![8, 4, 128, 4, 4, 128]⟩
abbrev S4 : Shape := ⟨1, ![4]⟩
abbrev S4x1 : Shape := ⟨2, ![4, 1]⟩
abbrev S256 : Shape := ⟨1, ![256]⟩
abbrev S1x256 : Shape := ⟨2, ![1, 256]⟩
abbrev S4x256 : Shape := ⟨2, ![4, 256]⟩
abbrev S8x640x4x4x128 : Shape := ⟨5, ![8, 640, 4, 4, 128]⟩
abbrev S4x256x1 : Shape := ⟨3, ![4, 256, 1]⟩
abbrev S8x4x256x4x4x128 : Shape := ⟨6, ![8, 4, 256, 4, 4, 128]⟩
abbrev S8x4x4x4x128x256 : Shape := ⟨6, ![8, 4, 4, 4, 128, 256]⟩
abbrev S4x1x1 : Shape := ⟨3, ![4, 1, 1]⟩
abbrev S128 : Shape := ⟨1, ![128]⟩
abbrev S1x128x1 : Shape := ⟨3, ![1, 128, 1]⟩
abbrev S4x128x1 : Shape := ⟨3, ![4, 128, 1]⟩
abbrev S1x1x256 : Shape := ⟨3, ![1, 1, 256]⟩
abbrev S4x1x256 : Shape := ⟨3, ![4, 1, 256]⟩
abbrev S4x128x256 : Shape := ⟨3, ![4, 128, 256]⟩
abbrev S1x4x1x1x128x256 : Shape := ⟨6, ![1, 4, 1, 1, 128, 256]⟩
abbrev S8x4x4x4x128 : Shape := ⟨5, ![8, 4, 4, 4, 128]⟩
abbrev S8x4x4x4x128x1 : Shape := ⟨6, ![8, 4, 4, 4, 128, 1]⟩
abbrev S8x4x4x4x128x128 : Shape := ⟨6, ![8, 4, 4, 4, 128, 128]⟩
abbrev S8x4x128x4x4 : Shape := ⟨5, ![8, 4, 128, 4, 4]⟩
abbrev S8x4x128x4x4x1 : Shape := ⟨6, ![8, 4, 128, 4, 4, 1]⟩
abbrev S8x512x4x4 : Shape := ⟨4, ![8, 512, 4, 4]⟩
abbrev S8x2048x4 : Shape := ⟨3, ![8, 2048, 4]⟩
abbrev S8x2048x128 : Shape := ⟨3, ![8, 2048, 128]⟩
abbrev S8x512x2048 : Shape := ⟨3, ![8, 512, 2048]⟩
abbrev S8x512x512 : Shape := ⟨3, ![8, 512, 512]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x128, .f32⟩
  | .hbm, ⟨2, _⟩ => ⟨S8x2048x4x128, .f32⟩
  | .hbm, ⟨3, _⟩ => ⟨S8x512x4x4x128, .f32⟩
  | .hbm, ⟨4, _⟩ => ⟨S_, .i32⟩
  | .hbm, ⟨5, _⟩ => ⟨S_, .f32⟩
  | .hbm, ⟨6, _⟩ => ⟨S8x512x4x4x128, .f32⟩
  | .hbm, ⟨7, _⟩ => ⟨S8x4x128x4x4x128, .f32⟩
  | .hbm, ⟨8, _⟩ => ⟨S4, .i32⟩
  | .hbm, ⟨9, _⟩ => ⟨S4x1, .i32⟩
  | .hbm, ⟨10, _⟩ => ⟨S_, .i32⟩
  | .hbm, ⟨11, _⟩ => ⟨S4x1, .i32⟩
  | .hbm, ⟨12, _⟩ => ⟨S4x1, .i32⟩
  | .hbm, ⟨13, _⟩ => ⟨S256, .i32⟩
  | .hbm, ⟨14, _⟩ => ⟨S1x256, .i32⟩
  | .hbm, ⟨15, _⟩ => ⟨S4x256, .i32⟩
  | .hbm, ⟨16, _⟩ => ⟨S4x256, .i32⟩
  | .hbm, ⟨17, _⟩ => ⟨S4x256, .i32⟩
  | .hbm, ⟨18, _⟩ => ⟨S8x512x4x4x128, .f32⟩
  | .hbm, ⟨19, _⟩ => ⟨S_, .i32⟩
  | .hbm, ⟨20, _⟩ => ⟨S_, .f32⟩
  | .hbm, ⟨21, _⟩ => ⟨S8x640x4x4x128, .f32⟩
  | .hbm, ⟨22, _⟩ => ⟨S_, .i32⟩
  | .hbm, ⟨23, _⟩ => ⟨S4x256, .i32⟩
  | .hbm, ⟨24, _⟩ => ⟨S4x256, .i1⟩
  | .hbm, ⟨25, _⟩ => ⟨S_, .i32⟩
  | .hbm, ⟨26, _⟩ => ⟨S4x256, .i32⟩
  | .hbm, ⟨27, _⟩ => ⟨S4x256, .i32⟩
  | .hbm, ⟨28, _⟩ => ⟨S4x256, .i32⟩
  | .hbm, ⟨29, _⟩ => ⟨S4x256x1, .i32⟩
  | .hbm, ⟨30, _⟩ => ⟨S8x4x256x4x4x128, .f32⟩
  | .hbm, ⟨31, _⟩ => ⟨S8x512x4x4x128, .f32⟩
  | .hbm, ⟨32, _⟩ => ⟨S_, .i32⟩
  | .hbm, ⟨33, _⟩ => ⟨S_, .f32⟩
  | .hbm, ⟨34, _⟩ => ⟨S8x640x4x4x128, .f32⟩
  | .hbm, ⟨35, _⟩ => ⟨S_, .i32⟩
  | .hbm, ⟨36, _⟩ => ⟨S4x256, .i32⟩
  | .hbm, ⟨37, _⟩ => ⟨S4x256, .i1⟩
  | .hbm, ⟨38, _⟩ => ⟨S_, .i32⟩
  | .hbm, ⟨39, _⟩ => ⟨S4x256, .i32⟩
  | .hbm, ⟨40, _⟩ => ⟨S4x256, .i32⟩
  | .hbm, ⟨41, _⟩ => ⟨S4x256, .i32⟩
  | .hbm, ⟨42, _⟩ => ⟨S4x256x1, .i32⟩
  | .hbm, ⟨43, _⟩ => ⟨S8x4x256x4x4x128, .f32⟩
  | .hbm, ⟨44, _⟩ => ⟨S8x4x4x4x128x256, .f32⟩
  | .hbm, ⟨45, _⟩ => ⟨S_, .f32⟩
  | .hbm, ⟨46, _⟩ => ⟨S8x4x4x4x128x256, .f32⟩
  | .hbm, ⟨47, _⟩ => ⟨S8x4x4x4x128x256, .f32⟩
  | .hbm, ⟨48, _⟩ => ⟨S4, .i32⟩
  | .hbm, ⟨49, _⟩ => ⟨S4x1x1, .i32⟩
  | .hbm, ⟨50, _⟩ => ⟨S_, .i32⟩
  | .hbm, ⟨51, _⟩ => ⟨S4x1x1, .i32⟩
  | .hbm, ⟨52, _⟩ => ⟨S4x1x1, .i32⟩
  | .hbm, ⟨53, _⟩ => ⟨S128, .i32⟩
  | .hbm, ⟨54, _⟩ => ⟨S1x128x1, .i32⟩
  | .hbm, ⟨55, _⟩ => ⟨S4x128x1, .i32⟩
  | .hbm, ⟨56, _⟩ => ⟨S4x128x1, .i32⟩
  | .hbm, ⟨57, _⟩ => ⟨S4x128x1, .i32⟩
  | .hbm, ⟨58, _⟩ => ⟨S4, .i32⟩
  | .hbm, ⟨59, _⟩ => ⟨S4x1x1, .i32⟩
  | .hbm, ⟨60, _⟩ => ⟨S_, .i32⟩
  | .hbm, ⟨61, _⟩ => ⟨S4x1x1, .i32⟩
  | .hbm, ⟨62, _⟩ => ⟨S4x1x1, .i32⟩
  | .hbm, ⟨63, _⟩ => ⟨S_, .i32⟩
  | .hbm, ⟨64, _⟩ => ⟨S4x1x1, .i32⟩
  | .hbm, ⟨65, _⟩ => ⟨S4x1x1, .i32⟩
  | .hbm, ⟨66, _⟩ => ⟨S256, .i32⟩
  | .hbm, ⟨67, _⟩ => ⟨S1x1x256, .i32⟩
  | .hbm, ⟨68, _⟩ => ⟨S4x1x256, .i32⟩
  | .hbm, ⟨69, _⟩ => ⟨S4x1x256, .i32⟩
  | .hbm, ⟨70, _⟩ => ⟨S4x1x256, .i32⟩
  | .hbm, ⟨71, _⟩ => ⟨S4x128x256, .i32⟩
  | .hbm, ⟨72, _⟩ => ⟨S4x128x256, .i32⟩
  | .hbm, ⟨73, _⟩ => ⟨S4x128x256, .i32⟩
  | .hbm, ⟨74, _⟩ => ⟨S_, .i32⟩
  | .hbm, ⟨75, _⟩ => ⟨S4x128x256, .i32⟩
  | .hbm, ⟨76, _⟩ => ⟨S4x128x256, .i1⟩
  | .hbm, ⟨77, _⟩ => ⟨S_, .i32⟩
  | .hbm, ⟨78, _⟩ => ⟨S4x128x256, .i32⟩
  | .hbm, ⟨79, _⟩ => ⟨S4x128x256, .i1⟩
  | .hbm, ⟨80, _⟩ => ⟨S4x128x256, .i1⟩
  | .hbm, ⟨81, _⟩ => ⟨S_, .i32⟩
  | .hbm, ⟨82, _⟩ => ⟨S4x1x256, .i32⟩
  | .hbm, ⟨83, _⟩ => ⟨S4x1x256, .i1⟩
  | .hbm, ⟨84, _⟩ => ⟨S4x128x256, .i1⟩
  | .hbm, ⟨85, _⟩ => ⟨S4x128x256, .i1⟩
  | .hbm, ⟨86, _⟩ => ⟨S1x4x1x1x128x256, .i1⟩
  | .hbm, ⟨87, _⟩ => ⟨S_, .f32⟩
  | .hbm, ⟨88, _⟩ => ⟨S_, .f32⟩
  | .hbm, ⟨89, _⟩ => ⟨S8x4x4x4x128x256, .i1⟩
  | .hbm, ⟨90, _⟩ => ⟨S8x4x4x4x128x256, .f32⟩
  | .hbm, ⟨91, _⟩ => ⟨S8x4x4x4x128x256, .f32⟩
  | .hbm, ⟨92, _⟩ => ⟨S_, .f32⟩
  | .hbm, ⟨93, _⟩ => ⟨S8x4x4x4x128, .f32⟩
  | .hbm, ⟨94, _⟩ => ⟨S8x4x4x4x128x1, .f32⟩
  | .hbm, ⟨95, _⟩ => ⟨S8x4x4x4x128x256, .f32⟩
  | .hbm, ⟨96, _⟩ => ⟨S8x4x4x4x128x256, .f32⟩
  | .hbm, ⟨97, _⟩ => ⟨S8x4x4x4x128x256, .f32⟩
  | .hbm, ⟨98, _⟩ => ⟨S_, .f32⟩
  | .hbm, ⟨99, _⟩ => ⟨S8x4x4x4x128, .f32⟩
  | .hbm, ⟨100, _⟩ => ⟨S8x4x4x4x128x128, .f32⟩
  | .hbm, ⟨101, _⟩ => ⟨S8x4x128x4x4x128, .f32⟩
  | .hbm, ⟨102, _⟩ => ⟨S8x4x128x4x4, .f32⟩
  | .hbm, ⟨103, _⟩ => ⟨S8x4x128x4x4x1, .f32⟩
  | .hbm, ⟨104, _⟩ => ⟨S8x4x128x4x4x128, .f32⟩
  | .hbm, ⟨105, _⟩ => ⟨S8x4x128x4x4x128, .f32⟩
  | .hbm, ⟨106, _⟩ => ⟨S8x4x4x4x128, .f32⟩
  | .hbm, ⟨107, _⟩ => ⟨S8x4x4x4x128, .f32⟩
  | .hbm, ⟨108, _⟩ => ⟨S8x4x128x4x4, .f32⟩
  | .hbm, ⟨109, _⟩ => ⟨S8x512x4x4x128, .f32⟩
  | .hbm, ⟨110, _⟩ => ⟨S8x2048x4x128, .f32⟩
  | .hbm, ⟨111, _⟩ => ⟨S8x512x4x4, .f32⟩
  | .hbm, ⟨112, _⟩ => ⟨S8x2048x4, .f32⟩
  | .hbm, ⟨113, _⟩ => ⟨S_, .i32⟩
  | .hbm, ⟨114, _⟩ => ⟨S_, .f32⟩
  | .hbm, ⟨115, _⟩ => ⟨S8x2048x128, .f32⟩
  | .hbm, ⟨116, _⟩ => ⟨S8x2048x4x128, .bf16⟩
  | .hbm, ⟨117, _⟩ => ⟨S8x512x2048, .bf16⟩
  | .hbm, ⟨118, _⟩ => ⟨S8x512x512, .f32⟩
  | _, _ => ⟨S8x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_call1_v0 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_call2_v0 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_16 : Ref sig .tc := ⟨.hbm, 113, rfl⟩
abbrev main_call4_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== Ffn.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S1024x1024 : Shape := ⟨2, ![1024, 1024]⟩
abbrev S6x256x1024 : Shape := ⟨3, ![6, 256, 1024]⟩
abbrev S6 : Shape := ⟨1, ![6]⟩
abbrev S1 : Shape := ⟨1, ![1]⟩
abbrev S1x256x1024 : Shape := ⟨3, ![1, 256, 1024]⟩
abbrev S256x1024 : Shape := ⟨2, ![256, 1024]⟩
abbrev S1x256x768 : Shape := ⟨3, ![1, 256, 768]⟩
abbrev S256x768 : Shape := ⟨2, ![256, 768]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S6x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnReferenceIdeal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.Core.lean ====
/- THE SOFTMAX OF ONE QUERY over a finite family of keys, at the extended reals. A score is real where the key is in the
   window and `⊥` where it is masked. The textbook form uses the natural exponential and a division; the other form uses
   scores already multiplied by `log₂ e`, powers of two and the reciprocal of the sum. The two are equal whenever one key
   is in the window, whatever the values are (they may be infinite). -/
module

public import Idealize.ShloMosaic.Lib.Pointwise

@[expose] public section

noncomputable section

namespace Cert.Attention

open Idealize.ShloMosaic

variable {n : ℕ}

/-- The greatest of the scores. -/
def top (s : Fin n → EReal) : EReal := Finset.univ.fold max ⊥ s

/-- The mean of the values `v` weighted by the exponentials of the scores `s`. -/
def mean (s v : Fin n → EReal) : EReal :=
  Ideal.div (∑ j, Ideal.exp (s j - top s) * v j) (∑ j, Ideal.exp (s j - top s))

/-- The logarithm of the sum of the exponentials of the scores. -/
def logSum (s : Fin n → EReal) : EReal := top s + Ideal.log (∑ j, Ideal.exp (s j - top s))

/-- The mean with powers of two and a reciprocal. -/
def mean2 (t v : Fin n → EReal) : EReal :=
  (∑ j, Ideal.exp2 (t j - top t) * v j) * Ideal.div 1 (∑ j, Ideal.exp2 (t j - top t))

/-- The logarithm taken in base two and brought back to the natural one. -/
def logSum2 (t : Fin n → EReal) : EReal :=
  (top t + Ideal.log (∑ j, Ideal.exp2 (t j - top t)) * (((Real.log 2)⁻¹ : ℝ) : EReal)) * ((Real.log 2 : ℝ) : EReal)

/-- The score of a key: `x` in the window, `⊥` outside it. -/
def masked (ok : Fin n → Prop) [DecidablePred ok] (a : Fin n → ℝ) (j : Fin n) : EReal := if ok j then ((a j : ℝ) : EReal) else ⊥

theorem top_eq_sup (s : Fin n → EReal) : top s = Finset.univ.sup s := rfl

theorem le_top (s : Fin n → EReal) (j : Fin n) : s j ≤ top s := by
  rw [top_eq_sup]; exact Finset.le_sup (Finset.mem_univ j)

section
variable (ok : Fin n → Prop) [DecidablePred ok] (a : Fin n → ℝ)

theorem masked_of {j : Fin n} (h : ok j) : masked ok a j = ((a j : ℝ) : EReal) := if_pos h
theorem masked_of_not {j : Fin n} (h : ¬ ok j) : masked ok a j = ⊥ := if_neg h

/-- The greatest score is the score of a key in the window. -/
theorem exists_top (h : ∃ j, ok j) : ∃ j₀, ok j₀ ∧ top (masked ok a) = ((a j₀ : ℝ) : EReal) ∧ ∀ j, ok j → a j ≤ a j₀ := by
  obtain ⟨i, hi⟩ := h
  obtain ⟨j₀, -, hj₀⟩ := Finset.exists_mem_eq_sup Finset.univ ⟨i, Finset.mem_univ i⟩ (masked ok a)
  have hok : ok j₀ := by
    by_contra hn
    have := le_top (masked ok a) i
    rw [top_eq_sup, hj₀, masked_of_not ok a hn, masked_of ok a hi] at this
    exact absurd (le_bot_iff.mp this) (EReal.coe_ne_bot _)
  refine ⟨j₀, hok, by rw [top_eq_sup, hj₀, masked_of ok a hok], fun j hj => ?_⟩
  have := le_top (masked ok a) j
  rw [top_eq_sup, hj₀, masked_of ok a hok, masked_of ok a hj] at this
  exact_mod_cast this

/-- Multiplying the scores by a nonnegative real multiplies the greatest. -/
theorem top_scaled {c : ℝ} (hc : 0 ≤ c) {j₀ : Fin n} (hok : ok j₀) (hmax : ∀ j, ok j → a j ≤ a j₀) :
    top (masked ok fun j => a j * c) = ((a j₀ * c : ℝ) : EReal) := by
  apply le_antisymm
  · rw [top_eq_sup]
    refine Finset.sup_le fun j _ => ?_
    by_cases hj : ok j
    · rw [masked_of ok _ hj]; exact_mod_cast mul_le_mul_of_nonneg_right (hmax j hj) hc
    · rw [masked_of_not ok _ hj]; exact bot_le
  · have := le_top (masked ok fun j => a j * c) j₀
    rwa [masked_of ok _ hok] at this

theorem exp_masked (r : ℝ) (j : Fin n) :
    Ideal.exp (masked ok a j - (r : EReal)) = (((if ok j then Real.exp (a j - r) else 0 : ℝ)) : EReal) := by
  by_cases hj : ok j
  · rw [masked_of ok a hj, ← EReal.coe_sub, Ideal.exp_coe, if_pos hj]
  · rw [masked_of_not ok a hj, if_neg hj, EReal.bot_sub, Ideal.exp_bot, EReal.coe_zero]

theorem exp2_masked (r : ℝ) (j : Fin n) :
    Ideal.exp2 (masked ok (fun j => a j * (Real.log 2)⁻¹) j - ((r * (Real.log 2)⁻¹ : ℝ) : EReal))
      = (((if ok j then Real.exp (a j - r) else 0 : ℝ)) : EReal) := by
  by_cases hj : ok j
  · rw [masked_of ok _ hj, ← EReal.coe_sub, Ideal.exp2_coe, if_pos hj]
    congr 1
    have h2 : Real.log 2 ≠ 0 := (Real.log_pos one_lt_two).ne'
    show (2 : ℝ) ^ (a j * (Real.log 2)⁻¹ - r * (Real.log 2)⁻¹) = _
    rw [Real.rpow_def_of_pos two_pos]
    congr 1
    field_simp
  · rw [masked_of_not ok _ hj, if_neg hj, EReal.bot_sub, Ideal.exp2_bot, EReal.coe_zero]

theorem coe_sum (f : Fin n → ℝ) : ∑ j, ((f j : ℝ) : EReal) = ((∑ j, f j : ℝ) : EReal) := by
  induction (Finset.univ : Finset (Fin n)) using Finset.cons_induction with
  | empty => simp
  | cons x s hx ih => rw [Finset.sum_cons, Finset.sum_cons, ih, EReal.coe_add]

theorem sum_pos {j₀ : Fin n} (hok : ok j₀) (r : ℝ) : 0 < ∑ j, (if ok j then Real.exp (a j - r) else 0 : ℝ) := by
  refine Finset.sum_pos' (fun j _ => ?_) ⟨j₀, Finset.mem_univ _, ?_⟩
  · split
    · exact (Real.exp_pos _).le
    · exact le_rfl
  · rw [if_pos hok]; exact Real.exp_pos _

/-- The two means are equal. -/
theorem mean2_eq (h : ∃ j, ok j) (v : Fin n → EReal) :
    mean2 (masked ok fun j => a j * (Real.log 2)⁻¹) v = mean (masked ok a) v := by
  obtain ⟨j₀, hok, htop, hmax⟩ := exists_top ok a h
  have hc : (0 : ℝ) ≤ (Real.log 2)⁻¹ := inv_nonneg.mpr (Real.log_pos one_lt_two).le
  unfold mean2 mean
  simp only [htop, top_scaled ok a hc hok hmax, exp_masked, exp2_masked, coe_sum]
  have hne := (sum_pos ok a hok (a j₀)).ne'
  rw [Ideal.div_coe hne, Ideal.div_coe hne, one_mul]

/-- The two logarithms are equal. -/
theorem logSum2_eq (h : ∃ j, ok j) :
    logSum2 (masked ok fun j => a j * (Real.log 2)⁻¹) = logSum (masked ok a) := by
  obtain ⟨j₀, hok, htop, hmax⟩ := exists_top ok a h
  have hc : (0 : ℝ) ≤ (Real.log 2)⁻¹ := inv_nonneg.mpr (Real.log_pos one_lt_two).le
  have h2 : Real.log 2 ≠ 0 := (Real.log_pos one_lt_two).ne'
  unfold logSum2 logSum
  simp only [htop, top_scaled ok a hc hok hmax, exp_masked, exp2_masked, coe_sum]
  have hpos := sum_pos ok a hok (a j₀)
  rw [Ideal.log_coe, if_neg (not_le.mpr hpos), ← EReal.coe_mul, ← EReal.coe_add, ← EReal.coe_mul, ← EReal.coe_add]
  congr 1
  field_simp

end

/-! ## Keys that stand before the sequence -/

/-- Leading masked keys change nothing: the greatest score. -/
theorem top_shift {p : ℕ} (s : Fin (p + n) → EReal) (h : ∀ j : Fin p, s (Fin.castAdd n j) = ⊥) :
    top s = top fun j : Fin n => s (Fin.natAdd p j) := by
  simp only [top_eq_sup]
  apply le_antisymm
  · refine Finset.sup_le fun j _ => ?_
    refine Fin.addCases (fun i => ?_) (fun i => ?_) j
    · rw [h]; exact bot_le
    · exact Finset.le_sup (f := fun j : Fin n => s (Fin.natAdd p j)) (Finset.mem_univ i)
  · exact Finset.sup_le fun j _ => Finset.le_sup (f := s) (Finset.mem_univ _)

theorem sum_shift {p : ℕ} (f : Fin (p + n) → EReal) (h : ∀ j : Fin p, f (Fin.castAdd n j) = 0) :
    ∑ j, f j = ∑ j : Fin n, f (Fin.natAdd p j) := by
  rw [Fin.sum_univ_add, Finset.sum_eq_zero fun j _ => h j, zero_add]

theorem mean_shift {p : ℕ} (s v : Fin (p + n) → EReal) (h : ∀ j : Fin p, s (Fin.castAdd n j) = ⊥) :
    mean s v = mean (fun j : Fin n => s (Fin.natAdd p j)) fun j => v (Fin.natAdd p j) := by
  unfold mean
  rw [top_shift s h, sum_shift _ fun j => by rw [h, EReal.bot_sub, Ideal.exp_bot, zero_mul],
    sum_shift (fun j => Ideal.exp (s j - _)) fun j => by rw [h, EReal.bot_sub, Ideal.exp_bot]]

theorem logSum_shift {p : ℕ} (s : Fin (p + n) → EReal) (h : ∀ j : Fin p, s (Fin.castAdd n j) = ⊥) :
    logSum s = logSum fun j : Fin n => s (Fin.natAdd p j) := by
  unfold logSum
  rw [top_shift s h, sum_shift (fun j => Ideal.exp (s j - _)) fun j => by rw [h, EReal.bot_sub, Ideal.exp_bot]]

/-! ## A score from its query and its key -/

/-- The inner product of a real query and a real key. -/
theorem dot_coe {m : ℕ} (q k : Fin m → ℝ) : ∑ e, ((q e : ℝ) : EReal) * ((k e : ℝ) : EReal) = ((∑ e, q e * k e : ℝ) : EReal) := by
  rw [← coe_sum]; exact Finset.sum_congr rfl fun e _ => (EReal.coe_mul _ _).symm

/-- A query scaled in advance gives the scaled inner product. -/
theorem dot_scaled {m : ℕ} (q k : Fin m → ℝ) (l s : ℝ) :
    ∑ e, (((q e : ℝ) : EReal) * ((l * s : ℝ) : EReal)) * ((k e : ℝ) : EReal) = ((((∑ e, q e * k e) * s) * l : ℝ) : EReal) := by
  rw [Finset.sum_congr rfl fun e _ => show (((q e : ℝ) : EReal) * ((l * s : ℝ) : EReal)) * ((k e : ℝ) : EReal)
      = ((q e * (l * s) * k e : ℝ) : EReal) by rw [EReal.coe_mul (_ * _), EReal.coe_mul (q e)], coe_sum]
  congr 1
  rw [Finset.sum_mul, Finset.sum_mul]
  exact Finset.sum_congr rfl fun e _ => by ring

/-- A mask of zeros and `⊥` added to real scores. -/
theorem add_mask {p : Prop} [Decidable p] (r : ℝ) : ((r : ℝ) : EReal) + (if p then 0 else ⊥) = if p then ((r : ℝ) : EReal) else ⊥ := by
  split
  · rw [add_zero]
  · rw [EReal.add_bot]

end Cert.Attention

end
-- ==== Proof.Block.lean ====
/- ONE BLOCK OF THE ATTENTION KERNEL: 128 queries of one head against `n` keys, `n` being 128 or 256. The block's operations
   are given for any float values, so that a program's printed block is an instance; at the extended reals each is read at
   an index. -/
module

public import Idealize.ShloMosaic.Lib.Pipeline.ValueKit.Tiles
public import Idealize.ShloMosaic.Lib.Pointwise
public import proofs.«01_k».proof.Proof.Core

@[expose] public section

noncomputable section

namespace Cert.Attention

open Idealize.ShloMosaic

abbrev Tile : Shape := ⟨3, ![1, 128, 128]⟩
abbrev Mat : Shape := ⟨2, ![128, 128]⟩
abbrev Col : Shape := ⟨2, ![128, 1]⟩
abbrev Rows : Shape := ⟨1, ![128]⟩
abbrev Keys (n : ℕ) : Shape := ⟨3, ![1, n, 128]⟩
abbrev KeyMat (n : ℕ) : Shape := ⟨2, ![n, 128]⟩
abbrev Scores (n : ℕ) : Shape := ⟨2, ![128, n]⟩
abbrev Wide (n : ℕ) : Shape := ⟨2, ![n, 256]⟩

/-- The conditions on shapes that the operations of a block with `n` keys ask for. -/
class Sides (n : ℕ) : Prop where
  castQ : Tile.ShapeCasts Mat
  castK : (Keys n).ShapeCasts (KeyMat n)
  dotS : DotDims.WF Mat (KeyMat n) (Scores n) [1] [1] [0] [0] [] []
  red : (Scores n).Reduces [1] Rows
  castCol : Rows.ShapeCasts Col
  bcast : Col.Broadcasts (Scores n)
  bcastM : Col.Broadcasts Mat
  conc : Shape.Concatenates [KeyMat n, KeyMat n] (Wide n) 1
  dotA : DotDims.WF (Scores n) (Wide n) (Wide 128) [1] [0] [0] [1] [] []
  left : (Wide 128).Slices ![0, 0] Mat
  right : (Wide 128).Slices ![0, 128] Mat
  castO : Mat.ShapeCasts Tile
  lanes : Mat.Iotas .tc 32 [1]
  castB : (Scores n).ShapeCasts (Scores n)

instance : Sides 128 := by constructor <;> decide
instance : Sides 256 := by constructor <;> decide

section
variable {F : FTy → Type} [FloatOps F] {n : ℕ} [Sides n]

/-- The dimension numbers of queries times keys transposed. -/
def dotS (n : ℕ) [Sides n] : DotDims Mat (KeyMat n) (Scores n) where
  lhsContracting := [1]
  rhsContracting := [1]
  lhsNonContracting := [0]
  rhsNonContracting := [0]
  lhsBatch := []
  rhsBatch := []
  wf := Sides.dotS

/-- The dimension numbers of weights times values. -/
def dotA (n : ℕ) [Sides n] : DotDims (Scores n) (Wide n) (Wide 128) where
  lhsContracting := [1]
  rhsContracting := [0]
  lhsNonContracting := [0]
  rhsNonContracting := [1]
  lhsBatch := []
  rhsBatch := []
  wf := Sides.dotA

/-- The masked scores: the queries times a scale, the products with the keys, and the mask where `b` is one. -/
def score (qs mk : F .f32) (q : Vec F Tile .bf16) (k : Vec F (Keys n) .bf16) (b : Vec F (Scores n) .f32) : FVec F (Scores n) .f32 :=
  addf (matmul (dotS n) none (truncf .bf16 (mulf (extf .f32 (shapeCast Mat q (Sides.castQ n) : FVec F Mat .bf16) (by decide)) (broadcast Mat qs)) (by decide) : FVec F Mat .bf16)
    (shapeCast (KeyMat n) k Sides.castK : FVec F (KeyMat n) .bf16) (constant (Scores n) .f32 0x00000000#32)) (mulf (shapeCast (Scores n) b Sides.castB : FVec F (Scores n) .f32) (broadcast (Scores n) mk))

/-- The greatest score of a row. -/
def rowTop (s : FVec F (Scores n) .f32) : FVec F Col .f32 :=
  shapeCast Col (multiReduction .maximumf [1] Rows s 0xFF800000#32 Sides.red (.inl rfl) rfl) (Sides.castCol n)

/-- The powers of two of the scores less the greatest. -/
def weights (s : FVec F (Scores n) .f32) : FVec F (Scores n) .bf16 :=
  truncf .bf16 (exp2 (subf s (broadcastTo (Scores n) (rowTop s) Sides.bcast))) (by decide)

/-- Weights times the values with a block of ones beside them. -/
def wide (s : FVec F (Scores n) .f32) (v : Vec F (Keys n) .bf16) : FVec F (Wide 128) .f32 :=
  matmul (dotA n) none (weights s)
    (concatenate (Wide n) 1 [⟨KeyMat n, (shapeCast (KeyMat n) v Sides.castK : FVec F (KeyMat n) .bf16)⟩,
      ⟨KeyMat n, (broadcast (KeyMat n) (Scalar.ofBits .bf16 0x3F80#16 : F .bf16) : FVec F (KeyMat n) .bf16)⟩] Sides.conc : FVec F (Wide n) .bf16)
    (constant (Wide 128) .f32 0x00000000#32)

/-- The sum of a row's weights, in every lane. -/
def total (s : FVec F (Scores n) .f32) (v : Vec F (Keys n) .bf16) : FVec F Mat .f32 :=
  extractStridedSlice Mat ![0, 128] (wide s v) (Sides.right n)

/-- A head's output rows. -/
def outTile (qs mk : F .f32) (q : Vec F Tile .bf16) (k : Vec F (Keys n) .bf16) (b : Vec F (Scores n) .f32) (v : Vec F (Keys n) .bf16) : FVec F Tile .bf16 :=
  shapeCast Tile (truncf .bf16 (mulf (extractStridedSlice Mat ![0, 0] (wide (score qs mk q k b) v) (Sides.left n))
    (divf (broadcast Mat (Scalar.ofBits .f32 0x3F800000#32 : F .f32)) (total (score qs mk q k b) v))) (by decide) : FVec F Mat .bf16) (Sides.castO n)

/-- One head's row of base-two logarithms, in every lane. -/
def logTwo (log2e : F .f32) (s : FVec F (Scores n) .f32) (v : Vec F (Keys n) .bf16) : FVec F Mat .f32 :=
  addf (broadcastTo Mat (rowTop s) (Sides.bcastM n)) (mulf (log (total s v)) (broadcast Mat log2e))

/-- A lane's number is `h`. -/
def laneIs (n : ℕ) [Sides n] (h : BitVec 32) : IVec Mat 1 := cmpi .eq (iota .tc Mat 32 [1] (Sides.lanes n)) (broadcast Mat h)

/-- The tile of logarithms: lane `h` holds head `h`'s, the other lanes zero. -/
def logTile (log2e ln2 : F .f32) (s0 : FVec F (Scores n) .f32) (v0 : Vec F (Keys n) .bf16) (s1 : FVec F (Scores n) .f32) (v1 : Vec F (Keys n) .bf16)
    (s2 : FVec F (Scores n) .f32) (v2 : Vec F (Keys n) .bf16) (s3 : FVec F (Scores n) .f32) (v3 : Vec F (Keys n) .bf16) : FVec F Tile .f32 :=
  shapeCast Tile (mulf (select (laneIs n 3#32) (logTwo log2e s3 v3) (select (laneIs n 2#32) (logTwo log2e s2 v2)
    (select (laneIs n 1#32) (logTwo log2e s1 v1) (select (laneIs n 0#32) (logTwo log2e s0 v0)
      (broadcast Mat (Scalar.ofBits .f32 0x00000000#32 : F .f32)))))) (broadcast Mat ln2) : FVec F Mat .f32) (Sides.castO n)

end

/-! ## The readings -/

theorem ofBits_neg_inf : Ideal.ofBits .f32 0xFF800000#32 = ⊥ := by simp [Ideal.ofBits, Ideal.ieee]

section
variable (qs mk : EReal) (q : Vec Ideal Tile .bf16) (i c : Fin 128)

theorem score_128 (k : Vec Ideal (Keys 128) .bf16) (b : Vec Ideal (Scores 128) .f32) (j : Fin 128) :
    score (F := Ideal) qs mk q k b (ix2 i j) = (∑ e : Fin 128, q (ix3 0 i e) * qs * k (ix3 0 j e)) + b (ix2 i j) * mk := by
  pointwise [score, dotS]

theorem score_256 (k : Vec Ideal (Keys 256) .bf16) (b : Vec Ideal (Scores 256) .f32) (j : Fin 256) :
    score (F := Ideal) qs mk q k b (ix2 i j) = (∑ e : Fin 128, q (ix3 0 i e) * qs * k (ix3 0 j e)) + b (ix2 i j) * mk := by
  pointwise [score, dotS]

theorem rowTop_128 (s : FVec Ideal (Scores 128) .f32) : rowTop s (ix2 i 0) = top fun j => s (ix2 i j) := by
  pointwise [rowTop, top]
  rw [ofBits_neg_inf]

theorem rowTop_256 (s : FVec Ideal (Scores 256) .f32) : rowTop s (ix2 i 0) = top fun j => s (ix2 i j) := by
  pointwise [rowTop, top]
  rw [ofBits_neg_inf]

theorem weights_128 (s : FVec Ideal (Scores 128) .f32) (j : Fin 128) :
    weights s (ix2 i j) = Ideal.exp2 (s (ix2 i j) - top fun j => s (ix2 i j)) := by
  pointwise [weights, rowTop_128]
  rfl

theorem weights_256 (s : FVec Ideal (Scores 256) .f32) (j : Fin 256) :
    weights s (ix2 i j) = Ideal.exp2 (s (ix2 i j) - top fun j => s (ix2 i j)) := by
  pointwise [weights, rowTop_256]
  rfl

theorem total_128 (s : FVec Ideal (Scores 128) .f32) (v : Vec Ideal (Keys 128) .bf16) :
    total s v (ix2 i c) = ∑ j, weights s (ix2 i j) := by
  pointwise [total, wide, dotA]

theorem total_256 (s : FVec Ideal (Scores 256) .f32) (v : Vec Ideal (Keys 256) .bf16) :
    total s v (ix2 i c) = ∑ j, weights s (ix2 i j) := by
  pointwise [total, wide, dotA]

/-- A head's output over 128 keys. -/
theorem outTile_128 (k : Vec Ideal (Keys 128) .bf16) (b : Vec Ideal (Scores 128) .f32) (v : Vec Ideal (Keys 128) .bf16) :
    outTile (F := Ideal) qs mk q k b v (ix3 0 i c) = mean2 (fun j => score (F := Ideal) qs mk q k b (ix2 i j)) fun j => v (ix3 0 j c) := by
  pointwise [outTile, wide, dotA, total_128, weights_128, mean2]

theorem outTile_256 (k : Vec Ideal (Keys 256) .bf16) (b : Vec Ideal (Scores 256) .f32) (v : Vec Ideal (Keys 256) .bf16) :
    outTile (F := Ideal) qs mk q k b v (ix3 0 i c) = mean2 (fun j => score (F := Ideal) qs mk q k b (ix2 i j)) fun j => v (ix3 0 j c) := by
  pointwise [outTile, wide, dotA, total_256, weights_256, mean2]

theorem logTwo_128 (l : EReal) (s : FVec Ideal (Scores 128) .f32) (v : Vec Ideal (Keys 128) .bf16) :
    logTwo (F := Ideal) l s v (ix2 i c)
      = top (fun j => s (ix2 i j)) + Ideal.log (∑ j, Ideal.exp2 (s (ix2 i j) - top fun j => s (ix2 i j))) * l := by
  pointwise [logTwo, rowTop_128, total_128, weights_128]

theorem logTwo_256 (l : EReal) (s : FVec Ideal (Scores 256) .f32) (v : Vec Ideal (Keys 256) .bf16) :
    logTwo (F := Ideal) l s v (ix2 i c)
      = top (fun j => s (ix2 i j)) + Ideal.log (∑ j, Ideal.exp2 (s (ix2 i j) - top fun j => s (ix2 i j))) * l := by
  pointwise [logTwo, rowTop_256, total_256, weights_256]

theorem laneIs_apply (n : ℕ) [Sides n] (h : Fin 4) : laneIs n (BitVec.ofNat 32 h.val) (ix2 i c) = if c.val = h.val then 1#1 else 0#1 := by
  pointwise [laneIs]
  revert c h
  decide +kernel

theorem laneIs_0 (n : ℕ) [Sides n] : laneIs n 0#32 (ix2 i c) = if c.val = 0 then 1#1 else 0#1 := laneIs_apply i c n 0
theorem laneIs_1 (n : ℕ) [Sides n] : laneIs n 1#32 (ix2 i c) = if c.val = 1 then 1#1 else 0#1 := laneIs_apply i c n 1
theorem laneIs_2 (n : ℕ) [Sides n] : laneIs n 2#32 (ix2 i c) = if c.val = 2 then 1#1 else 0#1 := laneIs_apply i c n 2
theorem laneIs_3 (n : ℕ) [Sides n] : laneIs n 3#32 (ix2 i c) = if c.val = 3 then 1#1 else 0#1 := laneIs_apply i c n 3

/-- Lane `c` of a tile of logarithms, from the four heads' values: zero past the fourth lane. -/
def lane (x : Fin 4 → EReal) (c : ℕ) : EReal := if h : c < 4 then x ⟨c, h⟩ else 0

/-- A choice among the four lanes, the last one first. -/
theorem choose_lane (f : Fin 4 → EReal) (l : EReal) :
    (Scalar.select (if c.val = 3 then 1#1 else 0#1) (f 3) (Scalar.select (if c.val = 2 then 1#1 else 0#1) (f 2)
      (Scalar.select (if c.val = 1 then 1#1 else 0#1) (f 1) (Scalar.select (if c.val = 0 then 1#1 else 0#1) (f 0) 0)))) * l
      = lane (fun h => f h * l) c.val := by
  unfold lane Scalar.select
  rcases c with ⟨c, hc⟩
  match c with
  | 0 => simp
  | 1 => simp
  | 2 => simp
  | 3 => simp
  | n + 4 => simp

/-- The tile of logarithms over 128 keys. -/
theorem logTile_128 (s0 s1 s2 s3 : FVec Ideal (Scores 128) .f32) (v0 v1 v2 v3 : Vec Ideal (Keys 128) .bf16) :
    logTile (F := Ideal) ((Real.log 2)⁻¹ : ℝ) (Real.log 2 : ℝ) s0 v0 s1 v1 s2 v2 s3 v3 (ix3 0 i c)
      = lane (fun h => logSum2 fun j => (![s0, s1, s2, s3] h) (ix2 i j)) c.val := by
  pointwise [logTile, logTwo_128, laneIs_0, laneIs_1, laneIs_2, laneIs_3]
  exact choose_lane c (fun h => top (fun j => (![s0, s1, s2, s3] h) (ix2 i j))
    + Ideal.log (∑ j, Ideal.exp2 ((![s0, s1, s2, s3] h) (ix2 i j) - top fun j => (![s0, s1, s2, s3] h) (ix2 i j))) * ((Real.log 2)⁻¹ : ℝ)) (Real.log 2 : ℝ)

/-- The tile of logarithms over 256 keys. -/
theorem logTile_256 (s0 s1 s2 s3 : FVec Ideal (Scores 256) .f32) (v0 v1 v2 v3 : Vec Ideal (Keys 256) .bf16) :
    logTile (F := Ideal) ((Real.log 2)⁻¹ : ℝ) (Real.log 2 : ℝ) s0 v0 s1 v1 s2 v2 s3 v3 (ix3 0 i c)
      = lane (fun h => logSum2 fun j => (![s0, s1, s2, s3] h) (ix2 i j)) c.val := by
  pointwise [logTile, logTwo_256, laneIs_0, laneIs_1, laneIs_2, laneIs_3]
  exact choose_lane c (fun h => top (fun j => (![s0, s1, s2, s3] h) (ix2 i j))
    + Ideal.log (∑ j, Ideal.exp2 ((![s0, s1, s2, s3] h) (ix2 i j) - top fun j => (![s0, s1, s2, s3] h) (ix2 i j))) * ((Real.log 2)⁻¹ : ℝ)) (Real.log 2 : ℝ)

end

/-! ## Blocks cut out of an array -/

section
variable {R C : ℕ} (x : Vec Ideal ⟨3, ![1, R, C]⟩ .bf16)

/-- Row `i`, column `j` of the array, zero outside it. -/
def at2 (i j : ℕ) : EReal := if h : i < R ∧ j < C then x (ix3 0 ⟨i, h.1⟩ ⟨j, h.2⟩) else 0

theorem ld_at2 {n : ℕ} (b o : ℕ) (inb) (i : Fin n) (e : Fin 128) :
    View.ld x (Rect.unit ![0, b, o] ![1, n, 128] inb) (ix3 0 i e) = at2 x (b + i.val) (o + e.val) := by
  have h1 : b + n ≤ R := inb 1
  have h2 : o + 128 ≤ C := inb 2
  rw [at2, dif_pos ⟨by omega, by omega⟩]
  refine View.ld_unit_apply_of x _ _ inb (ix3 0 i e) _ fun a => ?_
  fin_cases a <;> simp

theorem ld_whole {n : ℕ} (B : Vec Ideal (Scores n) .f32) (inb) (i : Fin 128) (j : Fin n) :
    View.ld B (Rect.unit ![0, 0] ![128, n] inb) (ix2 i j) = B (ix2 i j) := by
  refine View.ld_unit_apply_of B _ _ inb (ix2 i j) _ fun a => ?_
  fin_cases a <;> simp

/-- The reciprocal of the square root of the head's size, rounded to a binary fraction. -/
def scale : ℝ := 11863283 / 134217728

/-- The masked score of the query at row `p`, columns from `o`, and the key `j` rows after `b`, columns from `k`. -/
def placed {n : ℕ} (B : Vec Ideal (Scores n) .f32) (p o b k : ℕ) (i : Fin 128) (j : Fin n) : EReal :=
  (∑ e : Fin 128, at2 x p (o + e.val) * (((Real.log 2)⁻¹ * scale : ℝ) : EReal) * at2 x (b + j.val) (k + e.val)) + B (ix2 i j) * ⊥

variable (i c : Fin 128) {qs mk : EReal} (hqs : qs = ((Real.log 2)⁻¹ * scale : ℝ)) (hmk : mk = ⊥)
include hqs hmk

theorem score_ld_128 (B : Vec Ideal (Scores 128) .f32) (bq oq bk ok : ℕ) (iq ik ib) (j : Fin 128) :
    score (F := Ideal) qs mk (View.ld x (Rect.unit ![0, bq, oq] ![1, 128, 128] iq)) (View.ld x (Rect.unit ![0, bk, ok] ![1, 128, 128] ik))
        (View.ld B (Rect.unit ![0, 0] ![128, 128] ib)) (ix2 i j)
      = placed x B (bq + i.val) oq bk ok i j := by
  subst hqs hmk
  exact (score_128 _ _ _ i _ _ j).trans (congrArg₂ (· + ·)
    (Finset.sum_congr rfl fun e _ => congrArg₂ (· * ·) (congrArg (· * _) (ld_at2 x bq oq iq i e)) (ld_at2 x bk ok ik j e)) (congrArg (· * ⊥) (ld_whole B ib i j)))

theorem outTile_ld_128 (B : Vec Ideal (Scores 128) .f32) (bq oq bk ok bv ov : ℕ) (iq ik iv ib) :
    outTile (F := Ideal) qs mk (View.ld x (Rect.unit ![0, bq, oq] ![1, 128, 128] iq)) (View.ld x (Rect.unit ![0, bk, ok] ![1, 128, 128] ik))
        (View.ld B (Rect.unit ![0, 0] ![128, 128] ib)) (View.ld x (Rect.unit ![0, bv, ov] ![1, 128, 128] iv)) (ix3 0 i c)
      = mean2 (placed x B (bq + i.val) oq bk ok i) fun j => at2 x (bv + j.val) (ov + c.val) := by
  refine (outTile_128 _ _ _ i c _ _ _).trans (congrArg₂ mean2 (funext fun j => ?_) (funext fun j => ?_))
  · exact score_ld_128 x i hqs hmk B bq oq bk ok iq ik ib j
  · exact ld_at2 x bv ov iv j c

theorem logTile_ld_128 {l e : EReal} (hl : l = ((Real.log 2)⁻¹ : ℝ)) (he : e = (Real.log 2 : ℝ)) (B : Vec Ideal (Scores 128) .f32)
    (bq bk : ℕ) (o0 k0 o1 k1 o2 k2 o3 k3 : ℕ) (v0 v1 v2 v3 : Vec Ideal (Keys 128) .bf16) (iq0 ik0 iq1 ik1 iq2 ik2 iq3 ik3 ib) :
    logTile (F := Ideal) l e
        (score qs mk (View.ld x (Rect.unit ![0, bq, o0] ![1, 128, 128] iq0)) (View.ld x (Rect.unit ![0, bk, k0] ![1, 128, 128] ik0)) (View.ld B (Rect.unit ![0, 0] ![128, 128] ib))) v0
        (score qs mk (View.ld x (Rect.unit ![0, bq, o1] ![1, 128, 128] iq1)) (View.ld x (Rect.unit ![0, bk, k1] ![1, 128, 128] ik1)) (View.ld B (Rect.unit ![0, 0] ![128, 128] ib))) v1
        (score qs mk (View.ld x (Rect.unit ![0, bq, o2] ![1, 128, 128] iq2)) (View.ld x (Rect.unit ![0, bk, k2] ![1, 128, 128] ik2)) (View.ld B (Rect.unit ![0, 0] ![128, 128] ib))) v2
        (score qs mk (View.ld x (Rect.unit ![0, bq, o3] ![1, 128, 128] iq3)) (View.ld x (Rect.unit ![0, bk, k3] ![1, 128, 128] ik3)) (View.ld B (Rect.unit ![0, 0] ![128, 128] ib))) v3
        (ix3 0 i c)
      = lane (fun h => logSum2 (placed x B (bq + i.val) (![o0, o1, o2, o3] h) bk (![k0, k1, k2, k3] h) i)) c.val := by
  subst hl he
  rw [logTile_128]
  congr 2
  funext h
  congr 1
  funext j
  fin_cases h <;> exact score_ld_128 x i hqs hmk B bq _ bk _ _ _ ib j

theorem score_ld_256 (B : Vec Ideal (Scores 256) .f32) (bq oq bk ok : ℕ) (iq ik ib) (j : Fin 256) :
    score (F := Ideal) qs mk (View.ld x (Rect.unit ![0, bq, oq] ![1, 128, 128] iq)) (View.ld x (Rect.unit ![0, bk, ok] ![1, 256, 128] ik))
        (View.ld B (Rect.unit ![0, 0] ![128, 256] ib)) (ix2 i j)
      = placed x B (bq + i.val) oq bk ok i j := by
  subst hqs hmk
  exact (score_256 _ _ _ i _ _ j).trans (congrArg₂ (· + ·)
    (Finset.sum_congr rfl fun e _ => congrArg₂ (· * ·) (congrArg (· * _) (ld_at2 x bq oq iq i e)) (ld_at2 x bk ok ik j e)) (congrArg (· * ⊥) (ld_whole B ib i j)))

theorem outTile_ld_256 (B : Vec Ideal (Scores 256) .f32) (bq oq bk ok bv ov : ℕ) (iq ik iv ib) :
    outTile (F := Ideal) qs mk (View.ld x (Rect.unit ![0, bq, oq] ![1, 128, 128] iq)) (View.ld x (Rect.unit ![0, bk, ok] ![1, 256, 128] ik))
        (View.ld B (Rect.unit ![0, 0] ![128, 256] ib)) (View.ld x (Rect.unit ![0, bv, ov] ![1, 256, 128] iv)) (ix3 0 i c)
      = mean2 (placed x B (bq + i.val) oq bk ok i) fun j => at2 x (bv + j.val) (ov + c.val) := by
  refine (outTile_256 _ _ _ i c _ _ _).trans (congrArg₂ mean2 (funext fun j => ?_) (funext fun j => ?_))
  · exact score_ld_256 x i hqs hmk B bq oq bk ok iq ik ib j
  · exact ld_at2 x bv ov iv j c

theorem logTile_ld_256 {l e : EReal} (hl : l = ((Real.log 2)⁻¹ : ℝ)) (he : e = (Real.log 2 : ℝ)) (B : Vec Ideal (Scores 256) .f32)
    (bq bk : ℕ) (o0 k0 o1 k1 o2 k2 o3 k3 : ℕ) (v0 v1 v2 v3 : Vec Ideal (Keys 256) .bf16) (iq0 ik0 iq1 ik1 iq2 ik2 iq3 ik3 ib) :
    logTile (F := Ideal) l e
        (score qs mk (View.ld x (Rect.unit ![0, bq, o0] ![1, 128, 128] iq0)) (View.ld x (Rect.unit ![0, bk, k0] ![1, 256, 128] ik0)) (View.ld B (Rect.unit ![0, 0] ![128, 256] ib))) v0
        (score qs mk (View.ld x (Rect.unit ![0, bq, o1] ![1, 128, 128] iq1)) (View.ld x (Rect.unit ![0, bk, k1] ![1, 256, 128] ik1)) (View.ld B (Rect.unit ![0, 0] ![128, 256] ib))) v1
        (score qs mk (View.ld x (Rect.unit ![0, bq, o2] ![1, 128, 128] iq2)) (View.ld x (Rect.unit ![0, bk, k2] ![1, 256, 128] ik2)) (View.ld B (Rect.unit ![0, 0] ![128, 256] ib))) v2
        (score qs mk (View.ld x (Rect.unit ![0, bq, o3] ![1, 128, 128] iq3)) (View.ld x (Rect.unit ![0, bk, k3] ![1, 256, 128] ik3)) (View.ld B (Rect.unit ![0, 0] ![128, 256] ib))) v3
        (ix3 0 i c)
      = lane (fun h => logSum2 (placed x B (bq + i.val) (![o0, o1, o2, o3] h) bk (![k0, k1, k2, k3] h) i)) c.val := by
  subst hl he
  rw [logTile_256]
  congr 2
  funext h
  congr 1
  funext j
  fin_cases h <;> exact score_ld_256 x i hqs hmk B bq _ bk _ _ _ ib j
end

end Cert.Attention

end
-- ==== Proof.Kernel4.lean ====
/- THE KERNEL OF THE SECOND GROUP, at the extended reals: what its two output blocks hold at an index. A block holds one batch element's rows, 512
   positions of each of the four classes side by side; class `r`, head `h` has its queries in the columns from `1536 r + 128 h`. -/
module

public import proofs.«01_k».proof.Proof.Block
public import proofs.«01_k».proof.Proof.Gen.KernelIdeal.Value

@[expose] public section

set_option maxRecDepth 16384

noncomputable section

namespace Cert.Attention.Kernel4

open Idealize.ShloMosaic Cert.KernelIdeal Cert.KernelIdeal.Gen

variable (X : Vec Ideal S1x512x6144 .bf16) (B2 : Vec Ideal S128x256 .f32) (B1 : Vec Ideal S128x128 .f32)

/-- Row `p` of the output block, class `r`, head `h`, feature `c`. -/
def outAt (p r h c : ℕ) : EReal :=
  if p < 128 then
    mean2 (placed X B1 p (r * 1536 + h * 128) 0 (r * 1536 + 512 + h * 128) (Fin.ofNat 128 p)) fun j => at2 X (0 + j.val) (r * 1536 + 1024 + h * 128 + c)
  else
    mean2 (placed X B2 p (r * 1536 + h * 128) (p / 128 * 128 - 128) (r * 1536 + 512 + h * 128) (Fin.ofNat 128 p))
      fun j => at2 X (p / 128 * 128 - 128 + j.val) (r * 1536 + 1024 + h * 128 + c)

theorem outAt_first (i c : Fin 128) {p C o k v : ℕ} (hp : p = i.val) (ho : o = C / 512 * 1536 + C % 512 / 128 * 128) (hk : k = o + 512) (hv : v = o + 1024)
    (hc : C % 128 = c.val) :
    mean2 (placed X B1 (0 + i.val) o 0 k i) (fun j => at2 X (0 + j.val) (v + c.val)) = outAt X B2 B1 p (C / 512) (C % 512 / 128) (C % 128) := by
  have hi : Fin.ofNat 128 p = i := Fin.ext (by simp [hp, Nat.mod_eq_of_lt i.isLt])
  rw [outAt, if_pos (by omega), hi, hc, hp]
  congr 1
  · congr 1 <;> omega
  · funext j; congr 1; omega

theorem outAt_rest (i c : Fin 128) {p C o k v b g : ℕ} (hp : p = b + i.val) (hb : b = p / 128 * 128) (hg : b = g + 128)
    (ho : o = C / 512 * 1536 + C % 512 / 128 * 128) (hk : k = o + 512) (hv : v = o + 1024) (hc : C % 128 = c.val) :
    mean2 (placed X B2 (b + i.val) o g k i) (fun j => at2 X (g + j.val) (v + c.val)) = outAt X B2 B1 p (C / 512) (C % 512 / 128) (C % 128) := by
  have hi : Fin.ofNat 128 p = i := Fin.ext (by simp; omega)
  have hg' : p / 128 * 128 - 128 = g := by omega
  rw [outAt, if_neg (by omega), hi, hg', hc, hp]
  congr 1
  · congr 1 <;> omega
  · funext j; congr 1; omega

/-- Row `p` of the block of logarithms, class `r`, lane `c`: the heads' logarithms in the first four lanes. -/
def lseAt (p r c : ℕ) : EReal :=
  lane (fun h => if p < 128 then logSum2 (placed X B1 p (r * 1536 + h.val * 128) 0 (r * 1536 + 512 + h.val * 128) (Fin.ofNat 128 p))
    else logSum2 (placed X B2 p (r * 1536 + h.val * 128) (p / 128 * 128 - 128) (r * 1536 + 512 + h.val * 128) (Fin.ofNat 128 p))) c

theorem lseAt_first (i c : Fin 128) {p C : ℕ} {o k : Fin 4 → ℕ} (hp : p = i.val) (ho : ∀ h, o h = C / 128 * 1536 + h.val * 128)
    (hk : ∀ h, k h = o h + 512) (hc : C % 128 = c.val) :
    lane (fun h => logSum2 (placed X B1 (0 + i.val) (o h) 0 (k h) i)) c.val = lseAt X B2 B1 p (C / 128) (C % 128) := by
  have hi : Fin.ofNat 128 p = i := Fin.ext (by simp [hp, Nat.mod_eq_of_lt i.isLt])
  rw [lseAt, hc]
  congr 1
  funext h
  rw [if_pos (by omega), hi, hp]
  congr 2
  · omega
  · exact ho h
  · rw [hk, ho]; omega

theorem lseAt_rest (i c : Fin 128) {p C b g : ℕ} {o k : Fin 4 → ℕ} (hp : p = b + i.val) (hb : b = p / 128 * 128) (hg : b = g + 128)
    (ho : ∀ h, o h = C / 128 * 1536 + h.val * 128) (hk : ∀ h, k h = o h + 512) (hc : C % 128 = c.val) :
    lane (fun h => logSum2 (placed X B2 (b + i.val) (o h) g (k h) i)) c.val = lseAt X B2 B1 p (C / 128) (C % 128) := by
  have hi : Fin.ofNat 128 p = i := Fin.ext (by simp; omega)
  have hg' : p / 128 * 128 - 128 = g := by omega
  rw [lseAt, hc]
  congr 1
  funext h
  rw [if_neg (by omega), hi, hp, ← hp, hg']
  congr 2
  · exact ho h
  · rw [hk, ho]; omega

theorem named_q_scale : (Named.named κ "q_scale" 0x3E0293EE#32 : Ideal .f32) = ((Real.log 2)⁻¹ * scale : ℝ) := rfl
theorem named_mask : (Named.named κ "mask" 0xF149F2CA#32 : Ideal .f32) = ⊥ := rfl
theorem named_log2e : (Named.named κ "log2e" 0x3FB8AA3B#32 : Ideal .f32) = ((Real.log 2)⁻¹ : ℝ) := rfl
theorem named_ln2 : (Named.named κ "ln2" 0x3F317218#32 : Ideal .f32) = (Real.log 2 : ℝ) := rfl

end Cert.Attention.Kernel4

end
-- ==== Proof.Operands4.lean ====
/- THE SECOND GROUP'S KERNEL, its three operands: the queries, keys and values packed side by side, and the two tables that hold 0 at the keys a query
   sees and 1 at the others. -/
module

public import proofs.«01_k».proof.Proof.Kernel4
public import Idealize.ShloMosaic.Lib.Claim
public import Idealize.ShloMosaic.Lib.WordCmp
public import Idealize.ShloMosaic.Lib.IdealHost

@[expose] public section

set_option maxRecDepth 16384

noncomputable section

namespace Cert.Attention.Kernel4

open Idealize.ShloMosaic Idealize.ShloMosaic.TcCoe Cert.KernelIdeal Cert.KernelIdeal.Gen Idealize.ShloMosaic.Tactic

section
variable (q k v : FVec Ideal S8x2048x4x128 .f32)

/-- A token's queries, keys and values side by side. -/
def side : FVec Ideal S8x2048x1536 .bf16 :=
  concatenate S8x2048x1536 2 [⟨S8x2048x512, truncf .bf16 (shapeCast _ q shapeCasts_S8x2048x4x128_S8x2048x512) bitsLt_bf16_f32⟩,
    ⟨S8x2048x512, truncf .bf16 (shapeCast _ k shapeCasts_S8x2048x4x128_S8x2048x512) bitsLt_bf16_f32⟩,
    ⟨S8x2048x512, truncf .bf16 (shapeCast _ v shapeCasts_S8x2048x4x128_S8x2048x512) bitsLt_bf16_f32⟩] concatenates_S8x2048x512_S8x2048x512_S8x2048x512_S8x2048x1536_d2

/-- The four classes of a group of positions side by side. -/
def packed : FVec Ideal S8x512x6144 .bf16 :=
  shapeCast _ (shapeCast _ (side q k v) shapeCasts_S8x2048x1536_S4096x6144) shapeCasts_S4096x6144_S8x512x6144

theorem regroup_apply (x : FVec Ideal S8x2048x1536 .bf16) (b : Fin 8) (p : Fin 512) (o : Fin 6144) :
    (shapeCast S8x512x6144 (shapeCast S4096x6144 x shapeCasts_S8x2048x1536_S4096x6144) shapeCasts_S4096x6144_S8x512x6144) (ix3 b p o)
      = x (ix3 b ⟨p.val * 4 + o.val / 1536, by omega⟩ ⟨o.val % 1536, by omega⟩) := by
  pointwise

theorem side_q (b : Fin 8) (t : Fin 2048) (h : Fin 4) (e : Fin 128) : side q k v (ix3 b t ⟨h.val * 128 + e.val, by omega⟩) = q (ix4 b t h e) := by
  pointwise [side]
  exact dif_pos (by omega)

theorem side_k (b : Fin 8) (t : Fin 2048) (h : Fin 4) (e : Fin 128) : side q k v (ix3 b t ⟨512 + h.val * 128 + e.val, by omega⟩) = k (ix4 b t h e) := by
  pointwise [side]
  rw [dif_neg (by omega), dif_pos (by omega)]
  congr 2 <;> exact Fin.ext (by simp only []; omega)

theorem side_v (b : Fin 8) (t : Fin 2048) (h : Fin 4) (e : Fin 128) : side q k v (ix3 b t ⟨1024 + h.val * 128 + e.val, by omega⟩) = v (ix4 b t h e) := by
  pointwise [side]
  rw [dif_neg (by omega), dif_neg (by omega)]
  congr 2 <;> exact Fin.ext (by simp only []; omega)

/-- A batch element's rows, as the kernel's block. -/
def element (b : Fin 8) : Vec Ideal S1x512x6144 .bf16 := fun y => packed q k v (ix3 b (y 1) (y 2))

theorem element_at (b : Fin 8) (r : Fin 4) (o : ℕ) (ho : o < 1536) {p c : ℕ} (hp : p < 512) (hc : c = r.val * 1536 + o) :
    at2 (element q k v b) p c = side q k v (ix3 b ⟨p * 4 + r.val, by omega⟩ ⟨o, ho⟩) := by
  subst hc
  rw [at2, dif_pos ⟨hp, by omega⟩]
  refine (regroup_apply (side q k v) b ⟨p, hp⟩ ⟨r.val * 1536 + o, by omega⟩).trans (congrArg (side q k v) ?_)
  congr 1 <;> exact Fin.ext (by simp only []; omega)

variable (b : Fin 8) (r h : Fin 4) (e : Fin 128) {p o : ℕ} (hp : p < 512)

theorem element_q (ho : o = r.val * 1536 + h.val * 128) : at2 (element q k v b) p (o + e.val) = q (ix4 b ⟨p * 4 + r.val, by omega⟩ h e) :=
  (element_at q k v b r (h.val * 128 + e.val) (by omega) hp (by omega)).trans (side_q q k v b _ h e)

theorem element_k (ho : o = r.val * 1536 + 512 + h.val * 128) : at2 (element q k v b) p (o + e.val) = k (ix4 b ⟨p * 4 + r.val, by omega⟩ h e) :=
  (element_at q k v b r (512 + h.val * 128 + e.val) (by omega) hp (by omega)).trans (side_k q k v b _ h e)

theorem element_v (ho : o = r.val * 1536 + 1024 + h.val * 128) : at2 (element q k v b) p (o + e.val) = v (ix4 b ⟨p * 4 + r.val, by omega⟩ h e) :=
  (element_at q k v b r (1024 + h.val * 128 + e.val) (by omega) hp (by omega)).trans (side_v q k v b _ h e)

end

/-- The rows of a block's queries, and of its keys counted from the block before it. -/
def queryRow : IVec S128x1 32 := broadcastInDim S128x1 ![0] bcast_S128_S128x1_0 (iotaInDim S128 32 0)
def keyRow : IVec S1x256 32 := broadcastInDim S1x256 ![1] bcast_S256_S1x256_1 (iotaInDim S256 32 0)

/-- The keys of the two blocks a query sees. -/
def validTwo : IVec S128x256 1 :=
  select (broadcastInDim S128x256 ![0, 1] bcast_S1x256_S128x256_0_1 (cmpi .slt keyRow (broadcastInDim S1x256 ![] bcast_S_S1x256 (constantI S_ 32 128#32))))
    (cmpi .sge (broadcastInDim S128x256 ![0, 1] bcast_S1x256_S128x256_0_1 keyRow) (broadcastInDim S128x256 ![0, 1] bcast_S128x1_S128x256_0_1 queryRow))
    (cmpi .sle (broadcastInDim S128x256 ![0, 1] bcast_S1x256_S128x256_0_1 (subi keyRow (broadcastInDim S1x256 ![] bcast_S_S1x256 (constantI S_ 32 128#32))))
      (broadcastInDim S128x256 ![0, 1] bcast_S128x1_S128x256_0_1 queryRow))

/-- The keys of its own block a query sees. -/
def validOne : IVec S128x128 1 :=
  cmpi .sle (broadcastInDim S128x128 ![0, 1] bcast_S1x128_S128x128_0_1 (broadcastInDim S1x128 ![1] bcast_S128_S1x128_1 (iotaInDim S128 32 0)))
    (broadcastInDim S128x128 ![0, 1] bcast_S128x1_S128x128_0_1 queryRow)

def tableTwo : FVec Ideal S128x256 .f32 :=
  select validTwo (broadcastInDim S128x256 ![] bcast_S_S128x256 (constant S_ .f32 0x00000000#32)) (broadcastInDim S128x256 ![] bcast_S_S128x256 (constant S_ .f32 0x3F800000#32))

def tableOne : FVec Ideal S128x128 .f32 :=
  select validOne (broadcastInDim S128x128 ![] bcast_S_S128x128 (constant S_ .f32 0x00000000#32)) (broadcastInDim S128x128 ![] bcast_S_S128x128 (constant S_ .f32 0x3F800000#32))

section
variable {x y : ℕ} (hx : x < 2 ^ 31) (hy : y < 2 ^ 31)
include hx hy

theorem word_le : IntOp.cmpi .sle (BitVec.ofNat 32 x) (BitVec.ofNat 32 y) = if x ≤ y then 1#1 else 0#1 := by
  rw [WordCmp.cmpi_sle_ofNat hx hy]
  by_cases h : x ≤ y <;> simp [h]

theorem word_ge : IntOp.cmpi .sge (BitVec.ofNat 32 x) (BitVec.ofNat 32 y) = if y ≤ x then 1#1 else 0#1 := by
  rw [WordCmp.cmpi_sge_ofNat hx hy]
  by_cases h : y ≤ x <;> simp [h]

theorem word_lt : IntOp.cmpi .slt (BitVec.ofNat 32 x) (BitVec.ofNat 32 y) = if x < y then 1#1 else 0#1 := by
  rw [WordCmp.cmpi_slt_ofNat hx hy]
  by_cases h : x < y <;> simp [h]

end

theorem word_sub {x y : ℕ} (h : y ≤ x) : IntOp.subi (BitVec.ofNat 32 x) (BitVec.ofNat 32 y) = BitVec.ofNat 32 (x - y) := by
  have e : BitVec.ofNat 32 x = BitVec.ofNat 32 (x - y) + BitVec.ofNat 32 y := by
    rw [← BitVec.ofNat_add, Nat.sub_add_cancel h]
  rw [IntOp.subi, e, BitVec.add_sub_cancel]

theorem select_one (x y : BitVec 1) : Scalar.select 1#1 x y = x := rfl
theorem select_zero (x y : BitVec 1) : Scalar.select 0#1 x y = y := rfl

theorem validTwo_apply (i : Fin 128) (j : Fin 256) : validTwo (ix2 i j) = if i.val ≤ j.val ∧ j.val ≤ i.val + 128 then 1#1 else 0#1 := by
  pointwise [validTwo, keyRow, queryRow]
  rw [word_lt (by omega) (by omega)]
  by_cases hj : j.val < 128
  · rw [if_pos hj, select_one, word_ge (by omega) (by omega)]
    exact if_congr (by omega) rfl rfl
  · rw [if_neg hj, select_zero, word_sub (by omega), word_le (by omega) (by omega)]
    exact if_congr (by omega) rfl rfl

theorem validOne_apply (i j : Fin 128) : validOne (ix2 i j) = if j.val ≤ i.val then 1#1 else 0#1 := by
  pointwise [validOne, queryRow]
  exact word_le (by omega) (by omega)

theorem choose_if (p : Prop) [Decidable p] (x y : EReal) : Scalar.select (if p then 1#1 else 0#1) x y = if p then x else y := by
  split <;> rfl

theorem tableTwo_apply (i : Fin 128) (j : Fin 256) : tableTwo (ix2 i j) = if i.val ≤ j.val ∧ j.val ≤ i.val + 128 then 0 else 1 := by
  pointwise [tableTwo, validTwo_apply]
  exact choose_if _ _ _

theorem tableOne_apply (i j : Fin 128) : tableOne (ix2 i j) = if j.val ≤ i.val then 0 else 1 := by
  pointwise [tableOne, validOne_apply]
  exact choose_if _ _ _

section
variable (m : (ℓ : Loc nD τ sig) → Buf (Elt Ideal) ℓ) (c : Dev nD)

theorem V_packed : V m c main_v8
    = packed (m ((c.tc : Thread nD τ).loc main_arg0)) (m ((c.tc : Thread nD τ).loc main_arg1)) (m ((c.tc : Thread nD τ).loc main_arg2)) := by
  simp only [V, hostOps0, hostOps0_1, hostOps0_2, hostOps0_3, hostOps0_4, hostOps0_5, List.flatten_cons, List.flatten_nil, List.append_nil, List.cons_append, List.nil_append, StableHlo.TRef.ternary, StableHlo.TRef.unary, StableHlo.TRef.toBuf, StableHlo.TRef.ofBuf, cast_eq]
  after_results_simp <;> rfl

theorem V_two : V m c main_v29 = tableTwo := by
  simp only [V, hostOps0, hostOps0_1, hostOps0_2, hostOps0_3, hostOps0_4, hostOps0_5, List.flatten_cons, List.flatten_nil, List.append_nil, List.cons_append, List.nil_append, StableHlo.TRef.ternary, StableHlo.TRef.unary, StableHlo.TRef.toBuf, StableHlo.TRef.ofBuf, cast_eq]
  after_results_simp <;> rfl

theorem V_one : V m c main_v30 = tableOne := by
  simp only [V, hostOps0, hostOps0_1, hostOps0_2, hostOps0_3, hostOps0_4, hostOps0_5, List.flatten_cons, List.flatten_nil, List.append_nil, List.cons_append, List.nil_append, StableHlo.TRef.ternary, StableHlo.TRef.unary, StableHlo.TRef.toBuf, StableHlo.TRef.ofBuf, cast_eq]
  after_results_simp <;> rfl

end

end Cert.Attention.Kernel4

end
-- ==== Proof.Kernel4Out.lean ====
/- The second group's block of outputs at an index. -/
module

public import proofs.«01_k».proof.Proof.Kernel4

@[expose] public section

set_option maxRecDepth 65536

noncomputable section

namespace Cert.Attention.Kernel4

open Idealize.ShloMosaic Cert.KernelIdeal Cert.KernelIdeal.Gen

variable (X : Vec Ideal S1x512x6144 .bf16) (B2 : Vec Ideal S128x256 .f32) (B1 : Vec Ideal S128x128 .f32)

set_option maxHeartbeats 4000000 in
/-- What a grid point leaves in its block of outputs. -/
theorem out0_3_apply (p : Fin 512) (C : Fin 2048) :
    out0_3 X B2 B1 (ix3 0 p C) = outAt X B2 B1 p.val (C.val / 512) (C.val % 512 / 128) (C.val % 128) := by
  unfold out0_3
  canon_tiles y h
  all_goals
    idx_vars y
    obtain rfl : y0 = 0 := Subsingleton.elim _ _
    first
    | have hp : p.val < 128 := by omega
      refine (outTile_ld_128 _ y1 y2 named_q_scale named_mask _ 0 _ 0 _ 0 _ _ _ _ _).trans (outAt_first X B2 B1 y1 y2 (by omega) ?_ ?_ ?_ (by omega)) <;> omega
    | refine (outTile_ld_256 _ y1 y2 named_q_scale named_mask _ _ _ _ _ _ _ _ _ _ _).trans (outAt_rest X B2 B1 y1 y2 h1 ?_ ?_ ?_ ?_ ?_ (by omega)) <;> omega

end Cert.Attention.Kernel4

end
-- ==== Proof.Kernel4Lse.lean ====
/- The second group's block of logarithms at an index. -/
module

public import proofs.«01_k».proof.Proof.Kernel4

@[expose] public section

set_option maxRecDepth 65536

noncomputable section

namespace Cert.Attention.Kernel4

open Idealize.ShloMosaic Cert.KernelIdeal Cert.KernelIdeal.Gen

variable (X : Vec Ideal S1x512x6144 .bf16) (B2 : Vec Ideal S128x256 .f32) (B1 : Vec Ideal S128x128 .f32)

set_option maxHeartbeats 4000000 in
/-- What a grid point leaves in its block of logarithms. -/
theorem out0_4_apply (p C : Fin 512) :
    out0_4 X B2 B1 (ix3 0 p C) = lseAt X B2 B1 p.val (C.val / 128) (C.val % 128) := by
  unfold out0_4
  canon_tiles y h
  all_goals
    idx_vars y
    obtain rfl : y0 = 0 := Subsingleton.elim _ _
    first
    | have hp : p.val < 128 := by omega
      refine (logTile_ld_128 _ y1 y2 named_q_scale named_mask named_log2e named_ln2 _ 0 0 _ _ _ _ _ _ _ _ _ _ _ _ _ _ _ _ _ _ _ _ _).trans
        (lseAt_first X B2 B1 y1 y2 (by omega) (fun h => ?_) (fun h => ?_) (by omega)) <;> fin_cases h <;> simp <;> omega
    | refine (logTile_ld_256 _ y1 y2 named_q_scale named_mask named_log2e named_ln2 _ _ _ _ _ _ _ _ _ _ _ _ _ _ _ _ _ _ _ _ _ _ _ _).trans
        (lseAt_rest X B2 B1 y1 y2 h1 ?_ ?_ ?_ ?_ (by omega))
      all_goals first | omega | (intro h; fin_cases h <;> simp <;> omega)

end Cert.Attention.Kernel4

end
-- ==== Proof.Array4.lean ====
/- THE SECOND GROUP'S KERNEL, its two result arrays index by index: grid point `b` computes batch element `b`. -/
module

public import proofs.«01_k».proof.Proof.Operands4
public import proofs.«01_k».proof.Proof.Kernel4Out
public import proofs.«01_k».proof.Proof.Kernel4Lse
public import Idealize.ShloMosaic.Lib.Pipeline.ValueKit

@[expose] public section

set_option maxRecDepth 16384

noncomputable section

namespace Cert.Attention.Kernel4

open Idealize.ShloMosaic Idealize.ShloMosaic.TcCoe Cert.KernelIdeal Cert.KernelIdeal.Gen
open Idealize.ShloMosaic.Pipeline (Dat)

theorem point0 (t : Fin cfg0.N) : win0_0.index t = ![t.val, 0, 0] := by revert t; decide +kernel
theorem point1 (t : Fin cfg0.N) : win0_1.index t = ![0, 0] := by revert t; decide +kernel
theorem point2 (t : Fin cfg0.N) : win0_2.index t = ![0, 0] := by revert t; decide +kernel
theorem point3 (t : Fin cfg0.N) : win0_3.index t = ![t.val, 0, 0] := by revert t; decide +kernel
theorem point4 (t : Fin cfg0.N) : win0_4.index t = ![t.val, 0, 0] := by revert t; decide +kernel

/-- The batch element of a grid point. -/
def batch (t : Fin cfg0.N) : Fin 8 := ⟨t.val, t.isLt⟩

theorem place (t n y : ℕ) (hy : y < 1) (hn : n = 1) : t * n + y = t := by subst hn; omega

theorem read0 (x : FVec Ideal S8x512x6144 .bf16) (t : Fin cfg0.N) (y : S1x512x6144.Idx) :
    (win0_0.blk t).view.read (Elt Ideal) x y = x (ix3 (batch t) (y 1) (y 2)) := by
  refine congrArg x (funext fun a => Fin.ext ?_)
  refine (Pipeline.Window.rect_emb_val win0_0 t y a).trans ?_
  rw [point0]
  match a with
  | ⟨0, _⟩ => exact place t.val 1 (y 0).val (y 0).isLt rfl
  | ⟨1, _⟩ => exact (by omega : 0 * 512 + (y 1).val = (y 1).val)
  | ⟨2, _⟩ => exact (by omega : 0 * 6144 + (y 2).val = (y 2).val)

theorem read1 (x : FVec Ideal S128x256 .f32) (t : Fin cfg0.N) : (win0_1.blk t).view.read (Elt Ideal) x = x := by
  funext y
  refine congrArg x (funext fun a => Fin.ext ?_)
  refine Pipeline.Window.rect_emb_val_of_index_zero win0_1 t a ?_ y
  rw [point1]
  match a with
  | ⟨0, _⟩ => rfl
  | ⟨1, _⟩ => rfl

theorem read2 (x : FVec Ideal S128x128 .f32) (t : Fin cfg0.N) : (win0_2.blk t).view.read (Elt Ideal) x = x := by
  funext y
  refine congrArg x (funext fun a => Fin.ext ?_)
  refine Pipeline.Window.rect_emb_val_of_index_zero win0_2 t a ?_ y
  rw [point2]
  match a with
  | ⟨0, _⟩ => rfl
  | ⟨1, _⟩ => rfl

theorem emb3 (t : Fin cfg0.N) (y : S1x512x2048.Idx) : (win0_3.blk t).view.emb y = ix3 (batch t) (y 1) (y 2) := by
  refine funext fun a => Fin.ext ?_
  refine (Pipeline.Window.rect_emb_val win0_3 t y a).trans ?_
  rw [point3]
  match a with
  | ⟨0, _⟩ => exact place t.val 1 (y 0).val (y 0).isLt rfl
  | ⟨1, _⟩ => exact (by omega : 0 * 512 + (y 1).val = (y 1).val)
  | ⟨2, _⟩ => exact (by omega : 0 * 2048 + (y 2).val = (y 2).val)

theorem emb4 (t : Fin cfg0.N) (y : S1x512x512.Idx) : (win0_4.blk t).view.emb y = ix3 (batch t) (y 1) (y 2) := by
  refine funext fun a => Fin.ext ?_
  refine (Pipeline.Window.rect_emb_val win0_4 t y a).trans ?_
  rw [point4]
  match a with
  | ⟨0, _⟩ => exact place t.val 1 (y 0).val (y 0).isLt rfl
  | ⟨1, _⟩ => exact (by omega : 0 * 512 + (y 1).val = (y 1).val)
  | ⟨2, _⟩ => exact (by omega : 0 * 512 + (y 2).val = (y 2).val)

variable (m : (ℓ : Loc nD τ sig) → Buf (Elt Ideal) ℓ) (c : Dev nD)

/-- The batch element's packed rows, of the arguments as launched. -/
def given (b : Fin 8) : Vec Ideal S1x512x6144 .bf16 :=
  element (m ((c.tc : Thread nD τ).loc main_arg0)) (m ((c.tc : Thread nD τ).loc main_arg1)) (m ((c.tc : Thread nD τ).loc main_arg2)) b

theorem iblk0_eq (t : Fin cfg0.N) : iblk m c 0 t = given m c (batch t) := by
  have h : iblk m c 0 t = fun y : S1x512x6144.Idx => V m c main_v8 (ix3 (batch t) (y 1) (y 2)) := funext fun y => read0 (V m c main_v8) t y
  rw [h, V_packed]
  rfl

theorem iblk1_eq (t : Fin cfg0.N) : iblk m c 1 t = tableTwo := (read1 (V m c main_v29) t).trans (V_two m c)

theorem iblk2_eq (t : Fin cfg0.N) : iblk m c 2 t = tableOne := (read2 (V m c main_v30) t).trans (V_one m c)

section
variable (X : Fin 8 → Vec Ideal S1x512x6144 .bf16) (B2 : Vec Ideal S128x256 .f32) (B1 : Vec Ideal S128x128 .f32)

/-- The attention's results of all batch elements. -/
def outArray : S8x512x2048.Idx → EReal := fun i => outAt (X (i 0)) B2 B1 (i 1).val ((i 2).val / 512) ((i 2).val % 512 / 128) ((i 2).val % 128)

/-- The logarithms of the sums of all batch elements. -/
def lseArray : S8x512x512.Idx → EReal := fun i => lseAt (X (i 0)) B2 B1 (i 1).val ((i 2).val / 128) ((i 2).val % 128)

variable (h0 : ∀ t, iblk m c 0 t = X (batch t)) (h1 : ∀ t, iblk m c 1 t = B2) (h2 : ∀ t, iblk m c 2 t = B1)
include h0 h1 h2

theorem arr3_of : (dats m 0 c).arrAt 3 cfg0.N = outArray X B2 B1 := by
  refine (dats m 0 c).arrAt_eq_of_covers 3 _ (by decide +kernel) fun t hf y => ?_
  rw [after0_3, h0 t, h1 t, h2 t]
  have hy : (cfg0.win 3).xinj (cfg0.grid.coords t) y = ix3 0 (y 1) (y 2) := by
    funext a
    match a with
    | ⟨0, _⟩ => exact Subsingleton.elim (α := Fin 1) _ _
    | ⟨1, _⟩ => rfl
    | ⟨2, _⟩ => rfl
  rw [hy]
  refine Eq.trans (out0_3_apply _ B2 B1 (y 1) (y 2)) ?_
  have he := emb3 t y
  exact congrArg (outArray X B2 B1) he.symm

theorem arr4_of : (dats m 0 c).arrAt 4 cfg0.N = lseArray X B2 B1 := by
  refine (dats m 0 c).arrAt_eq_of_covers 4 _ (by decide +kernel) fun t hf y => ?_
  rw [after0_4, h0 t, h1 t, h2 t]
  have hy : (cfg0.win 4).xinj (cfg0.grid.coords t) y = ix3 0 (y 1) (y 2) := by
    funext a
    match a with
    | ⟨0, _⟩ => exact Subsingleton.elim (α := Fin 1) _ _
    | ⟨1, _⟩ => rfl
    | ⟨2, _⟩ => rfl
  rw [hy]
  refine Eq.trans (out0_4_apply _ B2 B1 (y 1) (y 2)) ?_
  have he := emb4 t y
  exact congrArg (lseArray X B2 B1) he.symm

end

theorem arr3 : (dats m 0 c).arrAt 3 cfg0.N = outArray (given m c) tableTwo tableOne := arr3_of m c _ _ _ (iblk0_eq m c) (iblk1_eq m c) (iblk2_eq m c)

theorem arr4 : (dats m 0 c).arrAt 4 cfg0.N = lseArray (given m c) tableTwo tableOne := arr4_of m c _ _ _ (iblk0_eq m c) (iblk1_eq m c) (iblk2_eq m c)

end Cert.Attention.Kernel4

end
-- ==== Proof.Reference4.lean ====
/- THE REFERENCE OF THE SECOND GROUP, at the extended reals, index by index. -/
module

public import proofs.«01_k».proof.Proof.Core
public import proofs.«01_k».proof.Proof.Gen.ReferenceIdeal.Run
public import Idealize.ShloMosaic.Lib.IdealHost
public import Idealize.ShloMosaic.Lib.WordCmp
public import Idealize.ShloMosaic.Lib.KernelVsHost

@[expose] public section

set_option maxRecDepth 16384

noncomputable section

namespace Cert.Attention.Reference4

open Idealize.ShloMosaic Idealize.ShloMosaic.TcCoe Cert.ReferenceIdeal Cert.ReferenceIdeal.Gen

/-- The first position of each block. -/
def start : IVec S4x1x1 32 := muli (broadcastInDim S4x1x1 ![0] bcast_S4_S4x1x1_0 (iotaInDim S4 32 0)) (broadcastInDim S4x1x1 ![] bcast_S_S4x1x1 (constantI S_ 32 128#32))

/-- The positions of a block's queries. -/
def qpos : IVec S4x128x1 32 := addi (broadcastInDim S4x128x1 ![0, 1, 2] bcast_S4x1x1_S4x128x1_0_1_2 start)
  (broadcastInDim S4x128x1 ![0, 1, 2] bcast_S1x128x1_S4x128x1_0_1_2 (broadcastInDim S1x128x1 ![1] bcast_S128_S1x128x1_1 (iotaInDim S128 32 0)))

/-- The positions of a block's keys, the block before it first. -/
def kpos : IVec S4x1x256 32 := addi (broadcastInDim S4x1x256 ![0, 1, 2] bcast_S4x1x1_S4x1x256_0_1_2 (subi start (broadcastInDim S4x1x1 ![] bcast_S_S4x1x1 (constantI S_ 32 128#32))))
  (broadcastInDim S4x1x256 ![0, 1, 2] bcast_S1x1x256_S4x1x256_0_1_2 (broadcastInDim S1x1x256 ![2] bcast_S256_S1x1x256_2 (iotaInDim S256 32 0)))

/-- How far a key lies before a query. -/
def relative : IVec S4x128x256 32 := subi (broadcastInDim S4x128x256 ![0, 1, 2] bcast_S4x128x1_S4x128x256_0_1_2 qpos)
  (broadcastInDim S4x128x256 ![0, 1, 2] bcast_S4x1x256_S4x128x256_0_1_2 kpos)

/-- The keys a query sees. -/
def seen : IVec S4x128x256 1 :=
  andi (andi (cmpi .sge relative (broadcastInDim S4x128x256 ![] bcast_S_S4x128x256 (constantI S_ 32 0#32)))
    (cmpi .sle relative (broadcastInDim S4x128x256 ![] bcast_S_S4x128x256 (constantI S_ 32 128#32))))
  (broadcastInDim S4x128x256 ![0, 1, 2] bcast_S4x1x256_S4x128x256_0_1_2 (cmpi .sge kpos (broadcastInDim S4x1x256 ![] bcast_S_S4x1x256 (constantI S_ 32 0#32))))

/-- A difference of two words holding small numbers. -/
theorem toInt_word_sub {a b : ℕ} (ha : a < 2 ^ 30) (hb : b < 2 ^ 30) : (BitVec.ofNat 32 a - BitVec.ofNat 32 b).toInt = (a : ℤ) - b := by
  rw [BitVec.toInt_sub, WordCmp.toInt_ofNat_of_lt (by omega), WordCmp.toInt_ofNat_of_lt (by omega)]
  exact Int.bmod_eq_of_le (by omega) (by omega)

theorem word_cancel (x i j w : BitVec 32) : x + i - (x - w + j) = i + w - j := by grind

theorem seen_apply (n : Fin 4) (i : Fin 128) (j : Fin 256) :
    seen (ix3 n i j) = if (i.val ≤ j.val ∧ j.val ≤ i.val + 128) ∧ 128 ≤ n.val * 128 + j.val then 1#1 else 0#1 := by
  pointwise [seen, relative, qpos, kpos, start]
  have hr : IntOp.subi (IntOp.addi (IntOp.muli (BitVec.ofNat 32 n.val) 128#32) (BitVec.ofNat 32 i.val))
      (IntOp.addi (IntOp.subi (IntOp.muli (BitVec.ofNat 32 n.val) 128#32) 128#32) (BitVec.ofNat 32 j.val))
      = BitVec.ofNat 32 (i.val + 128) - BitVec.ofNat 32 j.val := by
    simp only [IntOp.subi, IntOp.addi, IntOp.muli, BitVec.ofNat_add]
    exact word_cancel _ _ _ _
  have hk : IntOp.addi (IntOp.subi (IntOp.muli (BitVec.ofNat 32 n.val) 128#32) 128#32) (BitVec.ofNat 32 j.val)
      = BitVec.ofNat 32 (n.val * 128 + j.val) - BitVec.ofNat 32 128 := by
    simp only [IntOp.subi, IntOp.addi, IntOp.muli, BitVec.ofNat_add, BitVec.ofNat_mul, BitVec.sub_eq_add_neg]
    ac_rfl
  rw [hr, hk]
  simp only [WordCmp.cmpi_sge_eq, WordCmp.cmpi_sle_eq]
  rw [toInt_word_sub (by omega) (by omega), toInt_word_sub (by omega) (by omega)]
  rw [WordCmp.andi_ofBool, WordCmp.andi_ofBool, ← Bool.decide_and, ← Bool.decide_and]
  simp only [show (128#32).toInt = 128 by decide, BitVec.toInt_zero]
  by_cases h : (i.val ≤ j.val ∧ j.val ≤ i.val + 128) ∧ 128 ≤ n.val * 128 + j.val
  · rw [if_pos h, decide_eq_true (by omega)]; rfl
  · rw [if_neg h, decide_eq_false (by omega)]; rfl

/-- The rows of the keys, padded in front, that each block takes. -/
def row : IVec S4x256 32 := addi (broadcastInDim S4x256 ![0, 1] bcast_S4x1_S4x256_0_1 (muli (broadcastInDim S4x1 ![0] bcast_S4_S4x1_0 (iotaInDim S4 32 0)) (broadcastInDim S4x1 ![] bcast_S_S4x1 (constantI S_ 32 128#32))))
  (broadcastInDim S4x256 ![0, 1] bcast_S1x256_S4x256_0_1 (broadcastInDim S1x256 ![1] bcast_S256_S1x256_1 (iotaInDim S256 32 0)))

def rows : IVec S4x256x1 32 := broadcastInDim S4x256x1 ![0, 1] bcast_S4x256_S4x256x1_0_1
  (select (cmpi .slt row (broadcastInDim S4x256 ![] bcast_S_S4x256 (constantI S_ 32 0#32))) (addi row (broadcastInDim S4x256 ![] bcast_S_S4x256 (constantI S_ 32 640#32))) row)

theorem rows_apply (n : Fin 4) (j : Fin 256) : rows (ix3 n j 0) = BitVec.ofNat 32 (n.val * 128 + j.val) := by
  pointwise [rows, row]
  revert n j
  decide +kernel

/-- Keys or values with a block of zeros in front, the rows of each block and the block before it. -/
def blocks (k : FVec Ideal S8x2048x4x128 .f32) : FVec Ideal S8x4x256x4x4x128 .f32 :=
  Host.gather gather_S8x640x4x4x128_S4x256x1_S8x4x256x4x4x128_0345_1_n_n_1_2_8144128
    (pad S8x640x4x4x128 ![0, 128, 0, 0, 0] ![0, 0, 0, 0, 0] ![0, 0, 0, 0, 0] (shapeCast _ k shapeCasts_S8x2048x4x128_S8x512x4x4x128)
      (sitofp .f32 (constantI S_ 32 0#32)) pads_S8x512x4x4x128_S8x640x4x4x128_000_12800_000_000_000 h_S_) rows

/-- How the blocks are read: the row from the table, the other coordinates from the result. -/
abbrev gd : GatherDims S8x640x4x4x128 S4x256x1 S8x4x256x4x4x128 := gather_S8x640x4x4x128_S4x256x1_S8x4x256x4x4x128_0345_1_n_n_1_2_8144128

theorem blocks_apply (k : FVec Ideal S8x2048x4x128 .f32) (b : Fin 8) (n : Fin 4) (j : Fin 256) (r h : Fin 4) (e : Fin 128) :
    blocks k (ix6 b n j r h e) = if hj : 128 ≤ n.val * 128 + j.val then k (ix4 b ⟨(n.val * 128 + j.val - 128) * 4 + r.val, by omega⟩ h e) else 0 := by
  unfold blocks
  have : ∀ x, Host.gather gather_S8x640x4x4x128_S4x256x1_S8x4x256x4x4x128_0345_1_n_n_1_2_8144128 x rows (ix6 b n j r h e)
      = (x (ix5 b ⟨n.val * 128 + j.val, by omega⟩ r h e) : EReal) := by
    intro x
    refine congrArg x (funext fun a => Fin.ext ?_)
    have hrow : (rows (ix3 n j 0)).toInt = (n.val * 128 + j.val : ℕ) := by
      rw [rows_apply, WordCmp.toInt_ofNat_of_lt (by omega)]
    show gd.start (ix6 b n j r h e) rows a + gd.batchCoord (ix6 b n j r h e) a + gd.offCoord (ix6 b n j r h e) a = _
    rw [GatherDims.batchCoord_eq_zero _ _ _ List.not_mem_nil, Nat.add_zero]
    by_cases ha : a = 1
    · subst ha
      rw [GatherDims.offCoord_eq_zero _ _ _ (fun h => ((GatherDims.mem_sKept _ _).mp h).1 (List.mem_singleton.mpr rfl)), Nat.add_zero]
      unfold GatherDims.start
      rw [dif_pos (show (1 : Fin 5) ∈ gd.startIndexMap from List.mem_singleton.mpr rfl)]
      have hsi : gd.siIdx (ix6 b n j r h e) ⟨List.idxOf (1 : Fin 5) gd.startIndexMap, List.idxOf_lt_length_iff.2 (List.mem_singleton.mpr rfl)⟩ = ix3 n j 0 := by
        funext c
        refine Fin.ext ?_
        match c with
        | ⟨0, _⟩ => rfl
        | ⟨1, _⟩ => rfl
        | ⟨2, _⟩ => rfl
      rw [hsi, hrow]
      show min ((n.val * 128 + j.val : ℕ) : ℤ).toNat 639 = n.val * 128 + j.val
      omega
    · have hm : a ∉ gd.startIndexMap := fun h => ha (List.mem_singleton.mp h)
      unfold GatherDims.start
      rw [dif_neg hm, Nat.zero_add]
      unfold GatherDims.offCoord
      rw [dif_pos ((GatherDims.mem_sKept _ _).mpr ⟨fun h => ha (List.mem_singleton.mp h), List.not_mem_nil⟩)]
      match a, ha with
      | ⟨0, _⟩, _ => rfl
      | ⟨1, _⟩, ha => exact absurd rfl ha
      | ⟨2, _⟩, _ => rfl
      | ⟨3, _⟩, _ => rfl
      | ⟨4, _⟩, _ => rfl
  rw [this]
  pointwise
  by_cases h1 : 128 ≤ n.val * 128 + j.val
  · rw [dif_pos ⟨h1, by omega⟩, dif_pos h1]
  · rw [dif_neg (fun h => h1 h.1), dif_neg h1]
    show (((0#32 : BitVec 32).toInt : ℝ) : EReal) = 0
    simp

/-- The queries, a group of positions at a time (no position is added). -/
def group (q : FVec Ideal S8x2048x4x128 .f32) : FVec Ideal S8x512x4x4x128 .f32 :=
  pad S8x512x4x4x128 ![0, 0, 0, 0, 0] ![0, 0, 0, 0, 0] ![0, 0, 0, 0, 0] (shapeCast _ q shapeCasts_S8x2048x4x128_S8x512x4x4x128)
    (sitofp .f32 (constantI S_ 32 0#32)) pads_S8x512x4x4x128_S8x512x4x4x128_000_000_000_000_000 h_S_

/-- The queries of each block. -/
def queries (q : FVec Ideal S8x2048x4x128 .f32) : FVec Ideal S8x4x128x4x4x128 .f32 := shapeCast _ (group q) shapeCasts_S8x512x4x4x128_S8x4x128x4x4x128

/-- The scores of every query with every key of its block and of the one before, `⊥` outside the window. -/
def scores (q k : FVec Ideal S8x2048x4x128 .f32) : FVec Ideal S8x4x4x4x128x256 .f32 :=
  select (broadcastInDim S8x4x4x4x128x256 ![0, 1, 2, 3, 4, 5] bcast_S1x4x1x1x128x256_S8x4x4x4x128x256_0_1_2_3_4_5 (broadcastInDim S1x4x1x1x128x256 ![1, 4, 5] bcast_S4x128x256_S1x4x1x1x128x256_1_4_5 seen))
    (mulf (Host.dotGeneral dot_S8x4x128x4x4x128_S8x4x256x4x4x128_S8x4x4x4x128x256_5_5_2_2_0134_0134 none
        (queries q) (blocks k))
      (broadcastInDim S8x4x4x4x128x256 ![] bcast_S_S8x4x4x4x128x256 (constant S_ .f32 0x3DB504F3#32)))
    (broadcastInDim S8x4x4x4x128x256 ![] bcast_S_S8x4x4x4x128x256 (id (constant S_ .f32 0xFF800000#32)))

/-- The greatest score of each query. -/
def tops (s : FVec Ideal S8x4x4x4x128x256 .f32) : FVec Ideal S8x4x4x4x128 .f32 :=
  Host.reduce FloatOps.maximumf s (constant S_ .f32 0xFF800000#32) reducesTo_S8x4x4x4x128x256_S8x4x4x4x128_d5 h_S_

/-- The exponentials of the scores. -/
def weights (s : FVec Ideal S8x4x4x4x128x256 .f32) : FVec Ideal S8x4x4x4x128x256 .f32 :=
  Host.exp (subf s (broadcastInDim S8x4x4x4x128x256 ![0, 1, 2, 3, 4, 5] bcast_S8x4x4x4x128x1_S8x4x4x4x128x256_0_1_2_3_4_5
    (broadcastInDim S8x4x4x4x128x1 ![0, 1, 2, 3, 4] bcast_S8x4x4x4x128_S8x4x4x4x128x1_0_1_2_3_4 (tops s))))

/-- Their sums. -/
def sums (s : FVec Ideal S8x4x4x4x128x256 .f32) : FVec Ideal S8x4x4x4x128 .f32 :=
  Host.reduceAdd (weights s) (constant S_ .f32 0x00000000#32) reducesTo_S8x4x4x4x128x256_S8x4x4x4x128_d5 h_S_

/-- The attention's result. -/
def out (s : FVec Ideal S8x4x4x4x128x256 .f32) (v : FVec Ideal S8x2048x4x128 .f32) : FVec Ideal S8x512x2048 .bf16 :=
  shapeCast _ (truncf .bf16 (shapeCast _ (shapeCast _ (Host.divf
    (transpose S8x4x128x4x4x128 [0, 1, 5, 2, 3, 4] (Host.dotGeneral dot_S8x4x256x4x4x128_S8x4x4x4x128x256_S8x4x4x4x128x128_2_5_5_4_0134_0123 none (blocks v) (weights s)) transposes_S8x4x4x4x128x128_S8x4x128x4x4x128_0_1_5_2_3_4)
    (broadcastInDim S8x4x128x4x4x128 ![0, 1, 2, 3, 4, 5] bcast_S8x4x128x4x4x1_S8x4x128x4x4x128_0_1_2_3_4_5 (broadcastInDim S8x4x128x4x4x1 ![0, 1, 2, 3, 4] bcast_S8x4x128x4x4_S8x4x128x4x4x1_0_1_2_3_4
      (transpose S8x4x128x4x4 [0, 1, 4, 2, 3] (sums s) transposes_S8x4x4x4x128_S8x4x128x4x4_0_1_4_2_3))))
    shapeCasts_S8x4x128x4x4x128_S8x512x4x4x128) shapeCasts_S8x512x4x4x128_S8x2048x4x128) bitsLt_bf16_f32) shapeCasts_S8x2048x4x128_S8x512x2048

/-- The logarithms of the sums, by token and head. -/
def logs (s : FVec Ideal S8x4x4x4x128x256 .f32) : FVec Ideal S8x2048x4 .f32 :=
  shapeCast _ (shapeCast _ (transpose S8x4x128x4x4 [0, 1, 4, 2, 3] (addf (tops s) (Host.log (sums s))) transposes_S8x4x4x4x128_S8x4x128x4x4_0_1_4_2_3)
    shapeCasts_S8x4x128x4x4_S8x512x4x4) shapeCasts_S8x512x4x4_S8x2048x4

/-- The logarithms in 128 lanes, zero after the four heads. -/
def lanes (s : FVec Ideal S8x4x4x4x128x256 .f32) : FVec Ideal S8x2048x128 .f32 :=
  pad S8x2048x128 ![0, 0, 0] ![0, 0, 124] ![0, 0, 0] (logs s) (sitofp .f32 (constantI S_ 32 0#32)) pads_S8x2048x4_S8x2048x128_000_000_01240 h_S_

/-- The logarithms of the sums, the tokens of a group of positions side by side. -/
def lse (s : FVec Ideal S8x4x4x4x128x256 .f32) : FVec Ideal S8x512x512 .f32 :=
  shapeCast _ (lanes s) shapeCasts_S8x2048x128_S8x512x512

theorem res_out (m : (ℓ : Loc nD τ sig) → Buf (Elt Ideal) ℓ) (c : Dev nD) :
    Value.res_out0 m c = out (scores (m ((c.tc : Thread nD τ).loc main_arg0)) (m ((c.tc : Thread nD τ).loc main_arg1))) (m ((c.tc : Thread nD τ).loc main_arg2)) := rfl

theorem res_lse (m : (ℓ : Loc nD τ sig) → Buf (Elt Ideal) ℓ) (c : Dev nD) :
    Value.res_out1 m c = lse (scores (m ((c.tc : Thread nD τ).loc main_arg0)) (m ((c.tc : Thread nD τ).loc main_arg1))) := rfl

theorem group_apply (q : FVec Ideal S8x2048x4x128 .f32) (b : Fin 8) (p : Fin 512) (r h : Fin 4) (e : Fin 128) :
    group q (ix5 b p r h e) = q (ix4 b ⟨p.val * 4 + r.val, by omega⟩ h e) := by
  have h : group q (ix5 b p r h e) = shapeCast S8x512x4x4x128 q shapeCasts_S8x2048x4x128_S8x512x4x4x128 (ix5 b p r h e) :=
    pad_apply_of_inside _ _ _ _ _ _ _ (ix5 b p r h e) (ix5 b p r h e) fun a => match a with
      | ⟨0, _⟩ => (by simp : b.val = 0 + b.val * (0 + 1))
      | ⟨1, _⟩ => (by simp : p.val = 0 + p.val * (0 + 1))
      | ⟨2, _⟩ => (by simp : r.val = 0 + r.val * (0 + 1))
      | ⟨3, _⟩ => (by simp : h.val = 0 + h.val * (0 + 1))
      | ⟨4, _⟩ => (by simp : e.val = 0 + e.val * (0 + 1))
  rw [h]
  pointwise

theorem queries_apply (q : FVec Ideal S8x2048x4x128 .f32) (b : Fin 8) (n r h : Fin 4) (i : Fin 128) (e : Fin 128) :
    queries q (ix6 b n i r h e) = q (ix4 b ⟨(n.val * 128 + i.val) * 4 + r.val, by omega⟩ h e) := by
  have : queries q (ix6 b n i r h e) = group q (ix5 b ⟨n.val * 128 + i.val, by omega⟩ r h e) := by
    pointwise [queries]
  rw [this, group_apply]

theorem scale_eq : Ideal.ofBits .f32 0x3DB504F3#32 = ((11863283 / 134217728 : ℝ) : EReal) := by
  simp [Ideal.ofBits, Ideal.ieee]
  rw [← EReal.coe_mul]
  norm_num

theorem infty_eq : Ideal.ofBits .f32 0xFF800000#32 = ⊥ := by
  simp [Ideal.ofBits, Ideal.ieee]

theorem choose_apply (w : IVec S4x128x256 1) (x : FVec Ideal S8x4x4x4x128x256 .f32) (b : Fin 8) (n r h : Fin 4) (i : Fin 128) (j : Fin 256) :
    select (broadcastInDim S8x4x4x4x128x256 ![0, 1, 2, 3, 4, 5] bcast_S1x4x1x1x128x256_S8x4x4x4x128x256_0_1_2_3_4_5 (broadcastInDim S1x4x1x1x128x256 ![1, 4, 5] bcast_S4x128x256_S1x4x1x1x128x256_1_4_5 w)) x
      (broadcastInDim S8x4x4x4x128x256 ![] bcast_S_S8x4x4x4x128x256 (id (constant S_ .f32 0xFF800000#32))) (ix6 b n r h i j)
      = Scalar.select (w (ix3 n i j)) (x (ix6 b n r h i j)) ⊥ := by
  rw [← infty_eq]
  pointwise
  rfl

theorem scaled_apply (q : FVec Ideal S8x4x128x4x4x128 .f32) (k : FVec Ideal S8x4x256x4x4x128 .f32) (b : Fin 8) (n r h : Fin 4) (i : Fin 128) (j : Fin 256) :
    mulf (Host.dotGeneral dot_S8x4x128x4x4x128_S8x4x256x4x4x128_S8x4x4x4x128x256_5_5_2_2_0134_0134 none q k)
      (broadcastInDim S8x4x4x4x128x256 ![] bcast_S_S8x4x4x4x128x256 (constant S_ .f32 0x3DB504F3#32)) (ix6 b n r h i j)
      = (∑ e : Fin 128, q (ix6 b n i r h e) * k (ix6 b n j r h e)) * Ideal.ofBits .f32 0x3DB504F3#32 := by
  pointwise

theorem scores_apply (q k : FVec Ideal S8x2048x4x128 .f32) (b : Fin 8) (n r h : Fin 4) (i : Fin 128) (j : Fin 256) :
    scores q k (ix6 b n r h i j) = if (i.val ≤ j.val ∧ j.val ≤ i.val + 128) ∧ 128 ≤ n.val * 128 + j.val then
      (∑ e : Fin 128, q (ix4 b ⟨(n.val * 128 + i.val) * 4 + r.val, by omega⟩ h e) * blocks k (ix6 b n j r h e)) * ((11863283 / 134217728 : ℝ) : EReal) else ⊥ := by
  refine (choose_apply seen _ b n r h i j).trans ?_
  rw [seen_apply]
  by_cases hc : (i.val ≤ j.val ∧ j.val ≤ i.val + 128) ∧ 128 ≤ n.val * 128 + j.val
  · rw [if_pos hc, if_pos hc, scaled_apply (queries q) (blocks k), scale_eq]
    simp only [queries_apply]
    rfl
  · rw [if_neg hc, if_neg hc]
    rfl

section
variable (s : FVec Ideal S8x4x4x4x128x256 .f32) (b : Fin 8) (n r h : Fin 4) (i : Fin 128)

theorem reduces : S8x4x4x4x128x256.Reduces [5] S8x4x4x4x128 := by decide

theorem lift_apply (j : Fin 256) : reduces.lift (ix5 b n r h i) j = ix6 b n r h i j := by
  funext a
  fin_cases a <;> rfl

theorem tops_apply : tops s (ix5 b n r h i) = top fun j => s (ix6 b n r h i j) := by
  unfold tops
  rw [Host.reduce_eq_fold_single _ _ _ _ reduces]
  have h0 : constant (F := Ideal) S_ .f32 0xFF800000#32 (Shape.Idx.first h_S_) = (⊥ : EReal) := by
    show Ideal.ofBits .f32 0xFF800000#32 = ⊥
    simp [Ideal.ofBits, Ideal.ieee]
  rw [h0]
  unfold top
  congr 1
  funext j
  exact congrArg s (lift_apply b n r h i j)

theorem weights_apply (j : Fin 256) : weights s (ix6 b n r h i j) = Ideal.exp (s (ix6 b n r h i j) - top fun j => s (ix6 b n r h i j)) := by
  pointwise [weights, tops_apply]

theorem sums_apply : sums s (ix5 b n r h i) = ∑ j, Ideal.exp (s (ix6 b n r h i j) - top fun j => s (ix6 b n r h i j)) := by
  unfold sums
  rw [ValueIdx.hostReduceAdd_apply, Ideal.hostReduceAdd_single _ reduces]
  have h0 : constant (F := Ideal) S_ .f32 0x00000000#32 (Shape.Idx.first h_S_) = (0 : EReal) := by
    show Ideal.ofBits .f32 0x00000000#32 = 0
    simp [Ideal.ofBits, Ideal.ieee]
  rw [h0, zero_add]
  refine Finset.sum_congr rfl fun j _ => ?_
  exact (congrArg (weights s) (lift_apply b n r h i j)).trans (weights_apply s b n r h i j)

theorem out_apply (v : FVec Ideal S8x2048x4x128 .f32) (c : Fin 128) (p : Fin 512) (C : Fin 2048) (hp : p.val = n.val * 128 + i.val) (hC : C.val = r.val * 512 + h.val * 128 + c.val) :
    out s v (ix3 b p C) = mean (fun j => s (ix6 b n r h i j)) fun j => blocks v (ix6 b n j r h c) := by
  pointwise [out, sums_apply, weights_apply]
  have e1 : (p.val * 4 + C.val / 512) / 512 = n.val := by omega
  have e2 : (p.val * 4 + C.val / 512) % 4 = r.val := by omega
  have e3 : C.val / 128 % 4 = h.val := by omega
  have e4 : (p.val * 4 + C.val / 512) / 4 % 128 = i.val := by omega
  have e5 : C.val % 128 = c.val := by omega
  simp only [e1, e2, e3, e4, e5, Fin.eta]
  unfold mean
  congr 1
  exact Finset.sum_congr rfl fun j _ => mul_comm _ _

theorem lanes_apply (t : Fin 2048) (l : Fin 128) : lanes s (ix3 b t l) = if hl : l.val < 4 then logs s (ix3 b t ⟨l.val, hl⟩) else 0 := by
  by_cases hl : l.val < 4
  · rw [dif_pos hl]
    exact pad_apply_of_inside _ _ _ _ _ _ _ (ix3 b t l) (ix3 b t ⟨l.val, hl⟩) fun a => match a with
      | ⟨0, _⟩ => (by simp : b.val = 0 + b.val * (0 + 1))
      | ⟨1, _⟩ => (by simp : t.val = 0 + t.val * (0 + 1))
      | ⟨2, _⟩ => (by simp : l.val = 0 + l.val * (0 + 1))
  · rw [dif_neg hl]
    refine (pad_apply_of_not_inside _ _ _ _ _ _ _ (ix3 b t l) 2 fun h => ?_).trans ?_
    · have h2 : (l.val - 0) / (0 + 1) < 4 := h.2.2
      omega
    · show (((0#32 : BitVec 32).toInt : ℝ) : EReal) = 0
      simp

theorem untile_apply (x : FVec Ideal S8x4x4x4x128 .f32) (b : Fin 8) (t : Fin 2048) (h : Fin 4) :
    (shapeCast S8x2048x4 (shapeCast S8x512x4x4 (transpose S8x4x128x4x4 [0, 1, 4, 2, 3] x transposes_S8x4x4x4x128_S8x4x128x4x4_0_1_4_2_3)
    shapeCasts_S8x4x128x4x4_S8x512x4x4) shapeCasts_S8x512x4x4_S8x2048x4) (ix3 b t h)
      = x (ix5 b ⟨t.val / 512, by omega⟩ ⟨t.val % 4, by omega⟩ h ⟨t.val / 4 % 128, by omega⟩) := by
  pointwise

theorem lse_lanes (b : Fin 8) (p C : Fin 512) : lse s (ix3 b p C) = lanes s (ix3 b ⟨p.val * 4 + C.val / 128, by omega⟩ ⟨C.val % 128, by omega⟩) := by
  pointwise [lse]

theorem log_apply (x y : FVec Ideal S8x4x4x4x128 .f32) (o : S8x4x4x4x128.Idx) : addf x (Host.log y) o = x o + Ideal.log (y o) := by
  pointwise

theorem logs_apply (t : Fin 2048) (ht : t.val = (n.val * 128 + i.val) * 4 + r.val) :
    logs s (ix3 b t h) = logSum fun j => s (ix6 b n r h i j) := by
  have e2 : t.val / 4 % 128 = i.val := by omega
  have e3 : t.val % 4 = r.val := by omega
  have e4 : t.val / 512 = n.val := by omega
  have h1 : logs s (ix3 b t h) = addf (tops s) (Host.log (sums s)) (ix5 b n r h i) := by
    unfold logs
    rw [untile_apply]
    simp only [e2, e3, e4, Fin.eta]
  rw [h1, log_apply]
  exact congrArg₂ (fun x y => x + Ideal.log y) (tops_apply s b n r h i) (sums_apply s b n r h i)

theorem lse_apply (p : Fin 512) (C : Fin 512) (hp : p.val = n.val * 128 + i.val) (hC : C.val / 128 = r.val) :
    lse s (ix3 b p C) = if hc : C.val % 128 < 4 then logSum fun j => s (ix6 b n r ⟨C.val % 128, hc⟩ i j) else 0 := by
  rw [lse_lanes, lanes_apply]
  by_cases hc : C.val % 128 < 4
  · rw [dif_pos hc, dif_pos hc, logs_apply s b n r ⟨C.val % 128, hc⟩ i _ (by simp only []; omega)]
  · rw [dif_neg hc, dif_neg hc]

end

end Cert.Attention.Reference4

end
-- ==== Proof.Meet4.lean ====
/- THE SECOND GROUP: what the kernel computes from finite queries and keys is the reference's value, index by index. -/
module

public import proofs.«01_k».proof.Proof.Operands4
public import proofs.«01_k».proof.Proof.Reference4

@[expose] public section

set_option maxRecDepth 16384

noncomputable section

namespace Cert.Attention.Meet4

open Idealize.ShloMosaic Cert.Attention.Kernel4
open Cert.ReferenceIdeal (S8x2048x4x128 S8x512x2048 S8x512x512)

/-- The kernel's scores are the scaled inner products of the keys a query sees, in base two. -/
theorem placed_eq {R C n : ℕ} (X : Vec Ideal ⟨3, ![1, R, C]⟩ .bf16) (B : Vec Ideal (Scores n) .f32) (p o b kc : ℕ) (i : Fin 128) (ok : Fin n → Prop) [DecidablePred ok]
    (q : Fin 128 → ℝ) (k : Fin n → Fin 128 → ℝ) (hB : ∀ j, B (ix2 i j) = if ok j then 0 else 1) (hq : ∀ e, at2 X p (o + e.val) = ((q e : ℝ) : EReal))
    (hk : ∀ j e, at2 X (b + j.val) (kc + e.val) = ((k j e : ℝ) : EReal)) :
    placed X B p o b kc i = masked ok fun j => (∑ e, q e * k j e) * scale * (Real.log 2)⁻¹ := by
  funext j
  unfold placed masked
  simp only [hq, hk, hB, dot_scaled]
  have hm : (if ok j then (0 : EReal) else 1) * ⊥ = if ok j then 0 else ⊥ := by
    split
    · exact zero_mul _
    · exact one_mul _
  rw [hm, add_mask]

section
variable (q k v : FVec Ideal S8x2048x4x128 .f32) (qr kr : S8x2048x4x128.Idx → ℝ) (hq : ∀ i, q i = ((qr i : ℝ) : EReal)) (hk : ∀ i, k i = ((kr i : ℝ) : EReal))

/-- The inner product of the query of row `x` and the key of row `y`, of one class and head. -/
def inner (b : Fin 8) (r h : Fin 4) (x y : Fin 512) : ℝ :=
  (∑ e : Fin 128, qr (ix4 b ⟨x.val * 4 + r.val, by omega⟩ h e) * kr (ix4 b ⟨y.val * 4 + r.val, by omega⟩ h e)) * scale

section
include hq hk
variable (b : Fin 8) (n r h : Fin 4) (i : Fin 128)

/-- The reference's scores with the keys of the two blocks. -/
theorem scores_two (j : Fin 256) (x y : Fin 512) (hx : x.val = n.val * 128 + i.val) (hy : y.val + 128 = n.val * 128 + j.val) :
    Reference4.scores q k (ix6 b n r h i j) = if i.val ≤ j.val ∧ j.val ≤ i.val + 128 then ((inner qr kr b r h x y : ℝ) : EReal) else ⊥ := by
  rw [Reference4.scores_apply]
  refine if_congr (by omega) ?_ rfl
  have hrow : ∀ e, Reference4.blocks k (ix6 b n j r h e) = ((kr (ix4 b ⟨y.val * 4 + r.val, by omega⟩ h e) : ℝ) : EReal) := by
    intro e
    rw [Reference4.blocks_apply, dif_pos (by omega), hk]
    congr 4
    omega
  have hqrow : ∀ e, q (ix4 b ⟨(n.val * 128 + i.val) * 4 + r.val, by omega⟩ h e) = ((qr (ix4 b ⟨x.val * 4 + r.val, by omega⟩ h e) : ℝ) : EReal) := by
    intro e
    rw [hq]
    congr 4
    omega
  simp only [hrow, hqrow]
  rw [dot_coe, ← EReal.coe_mul]
  rfl

end

/-- The first block's scores lie on its own keys. -/
theorem scores_before (b : Fin 8) (r h : Fin 4) (i : Fin 128) (j : Fin 256) (hj : j.val < 128) : Reference4.scores q k (ix6 b 0 r h i j) = ⊥ := by
  rw [Reference4.scores_apply]
  exact if_neg fun h => absurd h.2 (by simp; omega)

variable (b : Fin 8) (r h : Fin 4) (p : Fin 512)

/-- The scores of a row of the first block, with the keys of that block. -/
def ownScores (s : ℝ) (j : Fin 128) : EReal :=
  masked (fun j : Fin 128 => j.val ≤ p.val % 128) (fun j => inner qr kr b r h p ⟨j.val, by omega⟩ * s) j

/-- The scores of a row of a later block, with the keys of its block and the one before. -/
def bothScores (s : ℝ) (j : Fin 256) : EReal :=
  masked (fun j : Fin 256 => p.val % 128 ≤ j.val ∧ j.val ≤ p.val % 128 + 128)
    (fun j => inner qr kr b r h p ⟨(p.val / 128 * 128 - 128 + j.val) % 512, by omega⟩ * s) j

section
include hq hk

theorem placed_own (hp : p.val < 128) :
    placed (element q k v b) tableOne p.val (r.val * 1536 + h.val * 128) 0 (r.val * 1536 + 512 + h.val * 128) (Fin.ofNat 128 p.val)
      = ownScores qr kr b r h p (Real.log 2)⁻¹ := by
  refine (placed_eq _ _ _ _ _ _ _ (fun j : Fin 128 => j.val ≤ p.val % 128) (fun e => qr (ix4 b ⟨p.val * 4 + r.val, by omega⟩ h e))
    (fun j e => kr (ix4 b ⟨j.val * 4 + r.val, by omega⟩ h e)) (fun j => tableOne_apply _ j) (fun e => ?_) fun j e => ?_).trans rfl
  · rw [element_q q k v b r h e p.isLt rfl, hq]
  · rw [element_k q k v b r h e (by omega) rfl, hk]
    congr 4
    omega

theorem placed_both (hp : ¬ p.val < 128) :
    placed (element q k v b) tableTwo p.val (r.val * 1536 + h.val * 128) (p.val / 128 * 128 - 128) (r.val * 1536 + 512 + h.val * 128) (Fin.ofNat 128 p.val)
      = bothScores qr kr b r h p (Real.log 2)⁻¹ := by
  refine (placed_eq _ _ _ _ _ _ _ (fun j : Fin 256 => p.val % 128 ≤ j.val ∧ j.val ≤ p.val % 128 + 128) (fun e => qr (ix4 b ⟨p.val * 4 + r.val, by omega⟩ h e))
    (fun j e => kr (ix4 b ⟨(p.val / 128 * 128 - 128 + j.val) % 512 * 4 + r.val, by omega⟩ h e)) (fun j => tableTwo_apply _ j) (fun e => ?_) fun j e => ?_).trans rfl
  · rw [element_q q k v b r h e p.isLt rfl, hq]
  · rw [element_k q k v b r h e (by omega) rfl, hk]
    congr 4
    omega

theorem scores_own (hp : p.val < 128) (j : Fin 128) (n : Fin 4) (i : Fin 128) (hn : n.val = p.val / 128) (hi : i.val = p.val % 128) :
    Reference4.scores q k (ix6 b n r h i ⟨128 + j.val, by omega⟩) = ownScores qr kr b r h p 1 j := by
  refine (scores_two q k qr kr hq hk b n r h i _ p ⟨j.val, by omega⟩ (by omega) (by simp only []; omega)).trans ?_
  unfold ownScores masked
  simp only [mul_one]
  exact if_congr (by omega) rfl rfl

theorem scores_both (hp : ¬ p.val < 128) (j : Fin 256) (n : Fin 4) (i : Fin 128) (hn : n.val = p.val / 128) (hi : i.val = p.val % 128) :
    Reference4.scores q k (ix6 b n r h i j) = bothScores qr kr b r h p 1 j := by
  refine (scores_two q k qr kr hq hk b n r h i j p ⟨(p.val / 128 * 128 - 128 + j.val) % 512, by omega⟩ (by omega) (by simp only []; omega)).trans ?_
  unfold bothScores masked
  simp only [mul_one]
  exact if_congr (by omega) rfl rfl

end

theorem own_mean (x : Fin 128 → EReal) : mean2 (ownScores qr kr b r h p (Real.log 2)⁻¹) x = mean (ownScores qr kr b r h p 1) x := by
  have h1 : ownScores qr kr b r h p 1 = masked (fun j : Fin 128 => j.val ≤ p.val % 128) fun j => inner qr kr b r h p ⟨j.val, by omega⟩ := by
    funext j; unfold ownScores; simp only [mul_one]
  rw [h1]
  exact mean2_eq _ _ ⟨0, Nat.zero_le _⟩ x

theorem own_logSum : logSum2 (ownScores qr kr b r h p (Real.log 2)⁻¹) = logSum (ownScores qr kr b r h p 1) := by
  have h1 : ownScores qr kr b r h p 1 = masked (fun j : Fin 128 => j.val ≤ p.val % 128) fun j => inner qr kr b r h p ⟨j.val, by omega⟩ := by
    funext j; unfold ownScores; simp only [mul_one]
  rw [h1]
  exact logSum2_eq _ _ ⟨0, Nat.zero_le _⟩

theorem both_mean (x : Fin 256 → EReal) : mean2 (bothScores qr kr b r h p (Real.log 2)⁻¹) x = mean (bothScores qr kr b r h p 1) x := by
  have h1 : bothScores qr kr b r h p 1 = masked (fun j : Fin 256 => p.val % 128 ≤ j.val ∧ j.val ≤ p.val % 128 + 128)
      fun j => inner qr kr b r h p ⟨(p.val / 128 * 128 - 128 + j.val) % 512, by omega⟩ := by
    funext j; unfold bothScores; simp only [mul_one]
  rw [h1]
  exact mean2_eq _ _ ⟨⟨p.val % 128, by omega⟩, le_rfl, Nat.le_add_right _ _⟩ x

theorem both_logSum : logSum2 (bothScores qr kr b r h p (Real.log 2)⁻¹) = logSum (bothScores qr kr b r h p 1) := by
  have h1 : bothScores qr kr b r h p 1 = masked (fun j : Fin 256 => p.val % 128 ≤ j.val ∧ j.val ≤ p.val % 128 + 128)
      fun j => inner qr kr b r h p ⟨(p.val / 128 * 128 - 128 + j.val) % 512, by omega⟩ := by
    funext j; unfold bothScores; simp only [mul_one]
  rw [h1]
  exact logSum2_eq _ _ ⟨⟨p.val % 128, by omega⟩, le_rfl, Nat.le_add_right _ _⟩

section
include hq hk
variable (n : Fin 4) (i : Fin 128) (hn : n.val = p.val / 128) (hi : i.val = p.val % 128)
include hn hi

/-- The reference's mean over a row of the first block. -/
theorem reference_own (hp : p.val < 128) (c : Fin 128) :
    mean (fun j => Reference4.scores q k (ix6 b n r h i j)) (fun j => Reference4.blocks v (ix6 b n j r h c))
      = mean (ownScores qr kr b r h p 1) fun j => v (ix4 b ⟨j.val * 4 + r.val, by omega⟩ h c) := by
  have hn0 : n = 0 := Fin.ext (by simp; omega)
  refine (mean_shift (p := 128) (n := 128) _ _ fun j => ?_).trans ?_
  · subst hn0
    exact scores_before q k b r h i _ j.isLt
  · refine congrArg₂ mean (funext fun j => scores_own q k qr kr hq hk b r h p hp j n i hn hi) (funext fun j => ?_)
    refine (Reference4.blocks_apply v b n ⟨128 + j.val, by omega⟩ r h c).trans ?_
    rw [dif_pos (by simp only []; omega)]
    congr 2
    exact Fin.ext (by simp only []; omega)

theorem reference_own_lse (hp : p.val < 128) :
    logSum (fun j => Reference4.scores q k (ix6 b n r h i j)) = logSum (ownScores qr kr b r h p 1) := by
  have hn0 : n = 0 := Fin.ext (by simp; omega)
  refine (logSum_shift (p := 128) (n := 128) _ fun j => ?_).trans ?_
  · subst hn0
    exact scores_before q k b r h i _ j.isLt
  · exact congrArg logSum (funext fun j => scores_own q k qr kr hq hk b r h p hp j n i hn hi)

/-- The reference's mean over a row of a later block. -/
theorem reference_both (hp : ¬ p.val < 128) (c : Fin 128) :
    mean (fun j => Reference4.scores q k (ix6 b n r h i j)) (fun j => Reference4.blocks v (ix6 b n j r h c))
      = mean (bothScores qr kr b r h p 1) fun j => v (ix4 b ⟨(p.val / 128 * 128 - 128 + j.val) % 512 * 4 + r.val, by omega⟩ h c) := by
  refine congrArg₂ mean (funext fun j => scores_both q k qr kr hq hk b r h p hp j n i hn hi) (funext fun j => ?_)
  rw [Reference4.blocks_apply, dif_pos (by omega)]
  congr 2
  exact Fin.ext (by simp only []; omega)

theorem reference_both_lse (hp : ¬ p.val < 128) :
    logSum (fun j => Reference4.scores q k (ix6 b n r h i j)) = logSum (bothScores qr kr b r h p 1) :=
  congrArg logSum (funext fun j => scores_both q k qr kr hq hk b r h p hp j n i hn hi)

end

include hq hk

/-- The attention's result at an index. -/
theorem out_eq (C : Fin 2048) :
    outAt (element q k v b) tableTwo tableOne p.val (C.val / 512) (C.val % 512 / 128) (C.val % 128)
      = Reference4.out (Reference4.scores q k) v (ix3 b p C) := by
  have hr : C.val / 512 < 4 := by omega
  have hh : C.val % 512 / 128 < 4 := by omega
  rw [Reference4.out_apply (Reference4.scores q k) b ⟨p.val / 128, by omega⟩ ⟨C.val / 512, hr⟩ ⟨C.val % 512 / 128, hh⟩ ⟨p.val % 128, by omega⟩ v ⟨C.val % 128, by omega⟩ p C
    (by simp only []; omega) (by simp only []; omega)]
  unfold outAt
  by_cases hp : p.val < 128
  · rw [if_pos hp, reference_own q k v qr kr hq hk b _ _ p _ _ rfl rfl hp, ← own_mean, placed_own q k v qr kr hq hk b ⟨C.val / 512, hr⟩ ⟨C.val % 512 / 128, hh⟩ p hp]
    refine congrArg (mean2 _) (funext fun j => ?_)
    refine (element_v q k v b ⟨C.val / 512, hr⟩ ⟨C.val % 512 / 128, hh⟩ ⟨C.val % 128, by omega⟩ (by omega) rfl).trans ?_
    congr 2
    exact Fin.ext (by simp only []; omega)
  · rw [if_neg hp, reference_both q k v qr kr hq hk b _ _ p _ _ rfl rfl hp, ← both_mean, placed_both q k v qr kr hq hk b ⟨C.val / 512, hr⟩ ⟨C.val % 512 / 128, hh⟩ p hp]
    refine congrArg (mean2 _) (funext fun j => ?_)
    refine (element_v q k v b ⟨C.val / 512, hr⟩ ⟨C.val % 512 / 128, hh⟩ ⟨C.val % 128, by omega⟩ (by omega) rfl).trans ?_
    congr 2
    exact Fin.ext (by simp only []; omega)

/-- The logarithm of the sum at an index. -/
theorem lse_eq (C : Fin 512) :
    lseAt (element q k v b) tableTwo tableOne p.val (C.val / 128) (C.val % 128) = Reference4.lse (Reference4.scores q k) (ix3 b p C) := by
  have hr : C.val / 128 < 4 := by omega
  rw [Reference4.lse_apply (Reference4.scores q k) b ⟨p.val / 128, by omega⟩ ⟨C.val / 128, hr⟩ ⟨p.val % 128, by omega⟩ p C (by simp only []; omega) rfl]
  unfold lseAt lane
  by_cases hc : C.val % 128 < 4
  · rw [dif_pos hc, dif_pos hc]
    dsimp only
    by_cases hp : p.val < 128
    · rw [if_pos hp, reference_own_lse q k qr kr hq hk b _ _ p _ _ rfl rfl hp, ← own_logSum]
      exact congrArg logSum2 (placed_own q k v qr kr hq hk b ⟨C.val / 128, hr⟩ ⟨C.val % 128, hc⟩ p hp)
    · rw [if_neg hp, reference_both_lse q k qr kr hq hk b _ _ p _ _ rfl rfl hp, ← both_logSum]
      exact congrArg logSum2 (placed_both q k v qr kr hq hk b ⟨C.val / 128, hr⟩ ⟨C.val % 128, hc⟩ p hp)
  · rw [dif_neg hc, dif_neg hc]

end

end Cert.Attention.Meet4

end
-- ==== Proof.Finite.lean ====
/- THE PRECONDITION, element by element: every query and every key is a real number. -/
module

public import proofs.«01_k».proof.Pre_finite
public import proofs.«01_k».proof.Proof.Gen.Pre_finite
public import Idealize.ShloMosaic.Lib.IdealHost

@[expose] public section

noncomputable section

namespace Cert.Attention

open Idealize.ShloMosaic Cert.Pre_finite

theorem infinity_eq : Ideal.ofBits .f32 0x7F800000#32 = ⊤ := by
  simp [Ideal.ofBits, Ideal.ieee]

theorem real_of_lt (x : EReal) (h : Ideal.cmp .olt (max x (-x)) (Ideal.ofBits .f32 0x7F800000#32) = 1#1) : x = ((x.toReal : ℝ) : EReal) := by
  rw [infinity_eq] at h
  induction x using EReal.rec with
  | bot => simp [Ideal.cmp] at h
  | coe r => rfl
  | top => simp [Ideal.cmp] at h

variable [Cert.Pre_finite.Facts] (q k v : FVec Ideal S8x2048x4x128 .f32)

theorem query_real (h : (fn q k v).1 = fun _ => 1#1) (i : S8x2048x4x128.Idx) : q i = (((q i).toReal : ℝ) : EReal) :=
  real_of_lt (q i) (congrFun h i)

theorem key_real (h : (fn q k v).2 = fun _ => 1#1) (i : S8x2048x4x128.Idx) : k i = (((k i).toReal : ℝ) : EReal) :=
  real_of_lt (k i) (congrFun h i)

end Cert.Attention

end
-- ==== Proof.Results4.lean ====
/- THE SECOND GROUP'S TWO RESULTS: from the same finite queries and keys, the kernel and the reference leave the same arrays. -/
module

public import proofs.«01_k».proof.Proof.Array4
public import proofs.«01_k».proof.Proof.Meet4
public import proofs.«01_k».proof.Proof.Finite

@[expose] public section

noncomputable section

namespace Cert.Attention.Results4

open Idealize.ShloMosaic Idealize.ShloMosaic.TcCoe

section
variable (q k v : FVec Ideal Cert.ReferenceIdeal.S8x2048x4x128 .f32) (hq : ∀ i, q i = (((q i).toReal : ℝ) : EReal)) (hk : ∀ i, k i = (((k i).toReal : ℝ) : EReal))
include hq hk

theorem outArray_eq : Kernel4.outArray (Kernel4.element q k v) Kernel4.tableTwo Kernel4.tableOne = Reference4.out (Reference4.scores q k) v := by
  funext i
  obtain ⟨b, p, C, rfl⟩ : ∃ (b : Fin 8) (p : Fin 512) (C : Fin 2048), i = ix3 b p C := ⟨i 0, i 1, i 2, eq_ix3 i⟩
  exact Meet4.out_eq q k v (fun i => (q i).toReal) (fun i => (k i).toReal) hq hk b p C

theorem lseArray_eq : Kernel4.lseArray (Kernel4.element q k v) Kernel4.tableTwo Kernel4.tableOne = Reference4.lse (Reference4.scores q k) := by
  funext i
  obtain ⟨b, p, C, rfl⟩ : ∃ (b : Fin 8) (p : Fin 512) (C : Fin 512), i = ix3 b p C := ⟨i 0, i 1, i 2, eq_ix3 i⟩
  exact Meet4.lse_eq q k v (fun i => (q i).toReal) (fun i => (k i).toReal) hq hk b p C

end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (q k v : FVec Ideal Cert.ReferenceIdeal.S8x2048x4x128 .f32) (hq : ∀ i, q i = (((q i).toReal : ℝ) : EReal)) (hk : ∀ i, k i = (((k i).toReal : ℝ) : EReal))
  (h0 : m ((c.tc : Thread Cert.KernelIdeal.nD Cert.KernelIdeal.τ).loc Cert.KernelIdeal.main_arg0) = q)
  (h1 : m ((c.tc : Thread Cert.KernelIdeal.nD Cert.KernelIdeal.τ).loc Cert.KernelIdeal.main_arg1) = k)
  (h2 : m ((c.tc : Thread Cert.KernelIdeal.nD Cert.KernelIdeal.τ).loc Cert.KernelIdeal.main_arg2) = v)
  (h0' : m' ((c.tc : Thread Cert.ReferenceIdeal.nD Cert.ReferenceIdeal.τ).loc Cert.ReferenceIdeal.main_arg0) = q)
  (h1' : m' ((c.tc : Thread Cert.ReferenceIdeal.nD Cert.ReferenceIdeal.τ).loc Cert.ReferenceIdeal.main_arg1) = k)
  (h2' : m' ((c.tc : Thread Cert.ReferenceIdeal.nD Cert.ReferenceIdeal.τ).loc Cert.ReferenceIdeal.main_arg2) = v)

section
include hq hk h0 h1 h2

theorem kernel_out : (Cert.KernelIdeal.Gen.dats m 0 c).arrAt 3 Cert.KernelIdeal.cfg0.N = Reference4.out (Reference4.scores q k) v := by
  rw [Kernel4.arr3]
  unfold Kernel4.given
  rw [h0, h1, h2]
  exact outArray_eq q k v hq hk

theorem kernel_lse : (Cert.KernelIdeal.Gen.dats m 0 c).arrAt 4 Cert.KernelIdeal.cfg0.N = Reference4.lse (Reference4.scores q k) := by
  rw [Kernel4.arr4]
  unfold Kernel4.given
  rw [h0, h1, h2]
  exact lseArray_eq q k v hq hk

end

section
include h0' h1'

theorem reference_lse : Cert.ReferenceIdeal.Value.res_out1 m' c = Reference4.lse (Reference4.scores q k) := by
  refine (Reference4.res_lse m' c).trans ?_
  rw [h0', h1']

include h2'

theorem reference_out : Cert.ReferenceIdeal.Value.res_out0 m' c = Reference4.out (Reference4.scores q k) v := by
  refine (Reference4.res_out m' c).trans ?_
  rw [h0', h1', h2']

end

end Cert.Attention.Results4

end
-- ==== Proof.FfnLoad.lean ====
module

public import proofs.«01_k».proof.Proof.Gen.FfnIdeal.Frame
public import proofs.«01_k».proof.Proof.Gen.FfnIdeal.Skeleton

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev BufOf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : BufOf (F := F) c M) : sProp 𝕄 :=
  M.view.loc (c : Thread nD τ) ↦{fullShare} f

abbrev hb2 : Memref sig .tc .hbm S1024x2816 .f32 := Memref.whole main_arg2
abbrev hb3 : Memref sig .tc .hbm S1024x2816 .f32 := Memref.whole main_arg3
abbrev hb4 : Memref sig .tc .hbm S2816x1024 .f32 := Memref.whole main_arg4
abbrev sc0 : Memref sig .tc .vmem S1024x2816 .bf16 := Memref.whole cc0_scratch0
abbrev sc1 : Memref sig .tc .vmem S1024x2816 .bf16 := Memref.whole cc0_scratch1
abbrev sc2 : Memref sig .tc .vmem S2816x1024 .bf16 := Memref.whole cc0_scratch2
abbrev sc3 : Memref sig .tc .vmem S6x256x1024 .f32 := Memref.whole cc0_scratch3

/-- The body's first conditional's program: the 35 copies of the weights into scratch. -/
def loads (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole) :
    Prog (TpuEff nD τ sig (Elt F) Λ₀ .tc) PUnit := do
  k0_part1 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part2 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part3 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part4 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part5 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part6 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part7 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  let ⟨v307, cst_250⟩ : Σ' (v307 : FVec F S256x1024 .f32), F .f32 ← k0_part8 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part9 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 v307 cst_250
  k0_part10 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part11 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part12 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part13 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part14 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part15 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part16 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part17 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part18 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part19 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part20 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  k0_part21 i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
  let v658 : Vec F S1x256x1024 .f32 ← Prog.lift (.load (Memref.whole cc0_scratch3) (Rect.unit (s := S6x256x1024) ![3, 0, 0] S1x256x1024.size inb_S6x256x1024_S1x256x1024_3_0_0).toLoadRect (View.loadsAt_vmem h_S1x256x1024))
  let v661 : Vec F S256x1024 .bf16 ← Prog.lift (.load (Memref.whole cc0_scratch2) (Rect.unit (s := S2816x1024) ![2304, 0] S256x1024.size inb_S2816x1024_S256x1024_2304_0).toLoadRect (View.loadsAt_vmem h_S256x1024))
  Prog.lift (.store (Memref.whole cc0_scratch2) (Rect.unit (s := S2816x1024) ![2304, 0] S256x1024.size inb_S2816x1024_S256x1024_2304_0) (k0_pay36 v658) Finset.univ (View.stores_vmem h_S256x1024 ((Memref.isWhole_whole (cc0_scratch2)).storeExact_slice rfl _ packedbf16_S2816x1024_S256x1024_2304_0) (fun _ => rfl)) (.inl rfl))
  let v664 : DmaSems sig S1 := cc0_scratch4.slice (Rect.unit (s := S6) ![4] S1.size inb_S6_S1_4)
  let v665 : DmaSems sig S_ := v664.squeeze S_ squeezes_S1_S_
  let v666 : Memref sig .tc .vmem S1x256x1024 .f32 := (Memref.whole cc0_scratch3).slice (Rect.unit (s := S6x256x1024) ![4, 0, 0] S1x256x1024.size inb_S6x256x1024_S1x256x1024_4_0_0) (fun _ => rfl)
  let v667 : Memref sig .tc .vmem S256x1024 .f32 := v666.squeeze S256x1024 squeezes_S1x256x1024_S256x1024
  let v668 : Memref sig .tc .hbm S256x1024 .f32 := (Memref.whole main_arg4).slice (Rect.unit (s := S2816x1024) ![2560, 0] S256x1024.size inb_S2816x1024_S256x1024_2560_0) (fun _ => rfl)
  Prog.lift (.waitDma2 v665.sem v668 v667 (View.wordExact_bits rfl) ((View.wordExact_bits rfl).reshape _ _))
  let v669 : Vec F S1x256x1024 .f32 ← Prog.lift (.load (Memref.whole cc0_scratch3) (Rect.unit (s := S6x256x1024) ![4, 0, 0] S1x256x1024.size inb_S6x256x1024_S1x256x1024_4_0_0).toLoadRect (View.loadsAt_vmem h_S1x256x1024))
  let v672 : Vec F S256x1024 .bf16 ← Prog.lift (.load (Memref.whole cc0_scratch2) (Rect.unit (s := S2816x1024) ![2560, 0] S256x1024.size inb_S2816x1024_S256x1024_2560_0).toLoadRect (View.loadsAt_vmem h_S256x1024))
  Prog.lift (.store (Memref.whole cc0_scratch2) (Rect.unit (s := S2816x1024) ![2560, 0] S256x1024.size inb_S2816x1024_S256x1024_2560_0) (k0_pay37 v669) Finset.univ (View.stores_vmem h_S256x1024 ((Memref.isWhole_whole (cc0_scratch2)).storeExact_slice rfl _ packedbf16_S2816x1024_S256x1024_2560_0) (fun _ => rfl)) (.inl rfl))
  pure ⟨⟩

abbrev sems (c : Dev nD) : sProp 𝕄 :=
  iprop(semVal ((c : Thread nD τ), SemLoc.dma 6) 0 ∗ semVal ((c : Thread nD τ), SemLoc.dma 7) 0 ∗ semVal ((c : Thread nD τ), SemLoc.dma 8) 0
     ∗ semVal ((c : Thread nD τ), SemLoc.dma 9) 0 ∗ semVal ((c : Thread nD τ), SemLoc.dma 10) 0 ∗ semVal ((c : Thread nD τ), SemLoc.dma 11) 0)

set_option sl_exec.dmaWindow true in
set_option sl_exec.squeezeSlice true in
noncomputable def loadRun (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole)
    (w1 : BufOf (F := F) c hb2) (w2 : BufOf (F := F) c hb3) (w3 : BufOf (F := F) c hb4)
    (s1 : BufOf (F := F) c sc0) (s2 : BufOf (F := F) c sc1) (s3 : BufOf (F := F) c sc2) (st : BufOf (F := F) c sc3) :
    { L : List (View.Piece (Elt F) S1024x2816 .bf16) × List (View.Piece (Elt F) S1024x2816 .bf16) × List (View.Piece (Elt F) S2816x1024 .bf16) //
      ∀ (W : Waits sig Unit) (K : PUnit → sProp 𝕄),
      iprop(pt c hb2 w1 ∗ pt c hb3 w2 ∗ pt c hb4 w3 ∗ pt c sc0 s1 ∗ pt c sc1 s2 ∗ pt c sc2 s3 ∗ pt c sc3 st
        ∗ sems c ∗ owes (c : Thread nD τ) 0 W
        ∗ (iprop(pt c hb2 w1 ∗ pt c hb3 w2 ∗ pt c hb4 w3 ∗ pt c sc0 (sc0.view.writes (Elt F) s1 L.1) ∗ pt c sc1 (sc1.view.writes (Elt F) s2 L.2.1) ∗ pt c sc2 (sc2.view.writes (Elt F) s3 L.2.2) ∗ (∃ f, pt c sc3 f)
          ∗ sems c ∗ (∃ W', owes (c : Thread nD τ) 0 W')) -∗ K ⟨⟩))
      ⊢ wp frame (wpE (defs₀ (F := F)) Variants.none c none) Set.univ (loads (F := F) i arg1 harg1 arg2 harg2 arg3 harg3 arg7 harg7) K } := by
  refine ⟨⟨?_, ?_, ?_⟩, fun W K => ?run⟩
  case run =>
    unfold loads
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
    unfold pt sems
    iintro ⟨Hw1, Hw2, Hw3, Hs1, Hs2, Hs3, Hst, ⟨Hq0, Hq1, Hq2, Hq3, Hq4, Hq5⟩, HW, Hk⟩
    sl_exec
    sl_step
    iapply Hk
    isplitl [Hw1]; · iexact Hw1
    isplitl [Hw2]; · iexact Hw2
    isplitl [Hw3]; · iexact Hw3
    isplitl [Hs1]
    · skip
      iexact Hs1
    isplitl [Hs2]; · iexact Hs2
    isplitl [Hs3]; · iexact Hs3
    isplitl [Hst]; · iexists _; iexact Hst
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    iexists _; iexact HW

end Cert.FfnIdeal.Hand
end
-- ==== Proof.FfnRest.lean ====
module

public import proofs.«01_k».proof.Proof.FfnLoad

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body after its first conditional: two sub-tiles of 512 rows. -/
def rest (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole) :
    Prog (TpuEff nD τ sig (Elt F) Λ₀ .tc) PUnit := do
  let v3 : Vec F S512x1024 .f32 ← Prog.lift (.load arg1 (Rect.unit (s := S1024x1024) ![0, 0] S512x1024.size inb_S1024x1024_S512x1024_0_0).toLoadRect (View.loadsAt_vmem h_S512x1024))
  let v15 : Vec F S1x1024 .f32 ← Prog.lift (.load arg2 (Rect.unit (s := S1x1024) ![0, 0] S1x1024.size inb_S1x1024_S1x1024_0_0).toLoadRect (View.loadsAt_vmem h_S1x1024))
  let v20 : Vec F S1024x2816 .bf16 ← Prog.lift (.load (Memref.whole cc0_scratch0) (Rect.unit (s := S1024x2816) ![0, 0] S1024x2816.size inb_S1024x2816_S1024x2816_0_0).toLoadRect (View.loadsAt_vmem h_S1024x2816))
  let v22 : Vec F S1024x2816 .bf16 ← Prog.lift (.load (Memref.whole cc0_scratch1) (Rect.unit (s := S1024x2816) ![0, 0] S1024x2816.size inb_S1024x2816_S1024x2816_0_0).toLoadRect (View.loadsAt_vmem h_S1024x2816))
  let v29 : Vec F S2816x1024 .bf16 ← Prog.lift (.load (Memref.whole cc0_scratch2) (Rect.unit (s := S2816x1024) ![0, 0] S2816x1024.size inb_S2816x1024_S2816x1024_0_0).toLoadRect (View.loadsAt_vmem h_S2816x1024))
  let v4 := k0_pay38 v3
  let v30 := k0_pay39 v3 v15 v20 v22 v29
  let v35 := k0_pay40 v3 v15 v20 v22 v29
  let v36 : FVec F S512x1 .f32 := k0_pay41 (F := F)
  let ⟨v48, v74, v75⟩ : Σ' (v48 : FVec F S512x1024 .f32) (v74 : FVec F S512x1024 .f32), FVec F S512x1024 .f32 ← k0_part23 i arg1 harg1 arg2 harg2 arg3 harg3 (Memref.whole main_arg2) (Memref.isWhole_whole main_arg2) (Memref.whole main_arg3) (Memref.isWhole_whole main_arg3) (Memref.whole main_arg4) (Memref.isWhole_whole main_arg4) arg7 harg7 (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) cc0_scratch4 v4 v30 v35 v36
  let v85 : Vec F S1x1024 .f32 ← Prog.lift (.load arg3 (Rect.unit (s := S1x1024) ![0, 0] S1x1024.size inb_S1x1024_S1x1024_0_0).toLoadRect (View.loadsAt_vmem h_S1x1024))
  let v90 : Vec F S512x1024 .f32 ← Prog.lift (.load arg7 (Rect.unit (s := S1024x1024) ![512, 0] S512x1024.size inb_S1024x1024_S512x1024_512_0).toLoadRect (View.loadsAt_vmem h_S512x1024))
  Prog.lift (.store arg7 (Rect.unit (s := S1024x1024) ![512, 0] S512x1024.size inb_S1024x1024_S512x1024_512_0) (k0_pay1 v48 v74 v75 v85) Finset.univ (View.stores_vmem_bits_univ h_S512x1024 rfl) (.inl rfl))
  pure ⟨⟩

/-- Whether the point is the grid's first, as the body asks it. -/
abbrev isFirst (i : grid0.Coords) : Prop :=
  Scalar.cmpi .ne (Scalar.extui (Scalar.cmpi .eq (BitVec.ofNat 32 (i 0).val) 0#32) : BitVec 32) 0#32 = (1#1 : BitVec 1)

abbrev body (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole) : Prog (TpuEff nD τ sig (Elt F) Λ₀ .tc) PUnit :=
  cc0_ffn i arg1 harg1 arg2 harg2 arg3 harg3 (Memref.whole main_arg2) (Memref.isWhole_whole _) (Memref.whole main_arg3) (Memref.isWhole_whole _) (Memref.whole main_arg4) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

theorem body_first (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole) (h : isFirst i) :
    body (F := F) i arg1 harg1 arg2 harg2 arg3 harg3 arg7 harg7 = (loads i arg1 harg1 arg2 harg2 arg3 harg3 arg7 harg7 >>= fun _ => rest i arg1 harg1 arg2 harg2 arg3 harg3 arg7 harg7) := by
  unfold body
  rw [cc0_ffn_eq_skeleton]; unfold cc0_ffn_skel
  rw [k0_part22_eq_skeleton]; unfold k0_part22_skel
  dsimp only
  rw [dif_pos h]
  unfold loads rest
  simp only [bind_assoc, pure_bind]

theorem body_later (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole) (h : ¬ isFirst i) :
    body (F := F) i arg1 harg1 arg2 harg2 arg3 harg3 arg7 harg7 = rest i arg1 harg1 arg2 harg2 arg3 harg3 arg7 harg7 := by
  unfold body
  rw [cc0_ffn_eq_skeleton]; unfold cc0_ffn_skel
  rw [k0_part22_eq_skeleton]; unfold k0_part22_skel
  dsimp only
  rw [dif_neg h]
  unfold rest
  simp only [bind_assoc, pure_bind]

abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
abbrev rRow : Rect S1x1024 := Rect.unit (s := S1x1024) ![0, 0] S1x1024.size inb_S1x1024_S1x1024_0_0
abbrev rIn : Rect S1024x2816 := Rect.unit (s := S1024x2816) ![0, 0] S1024x2816.size inb_S1024x2816_S1024x2816_0_0
abbrev rOut : Rect S2816x1024 := Rect.unit (s := S2816x1024) ![0, 0] S2816x1024.size inb_S2816x1024_S2816x1024_0_0

/-- What the body leaves in the output's block, from the row blocks and the three weight scratches: two pieces, the later first. -/
def out3 (x0 : Vec F S1024x1024 .f32) (x1 x2 : Vec F S1x1024 .f32) (g0 g1 : Vec F S1024x2816 .bf16) (g2 : Vec F S2816x1024 .bf16) : Vec F S1024x1024 .f32 :=
  View.canon [⟨rBot, k0_pay1 (k0_pay43 (View.ld x0 rBot)) (k0_pay44 (View.ld x0 rBot) (View.ld x1 rRow) (View.ld g0 rIn) (View.ld g1 rIn) (View.ld g2 rOut))
      (k0_pay45 (View.ld x0 rBot) (View.ld x1 rRow) (View.ld g0 rIn) (View.ld g1 rIn) (View.ld g2 rOut)) (View.ld x2 rRow)⟩,
    ⟨rTop, k0_pay42 (k0_pay38 (View.ld x0 rTop)) (k0_pay39 (View.ld x0 rTop) (View.ld x1 rRow) (View.ld g0 rIn) (View.ld g1 rIn) (View.ld g2 rOut))
      (k0_pay40 (View.ld x0 rTop) (View.ld x1 rRow) (View.ld g0 rIn) (View.ld g1 rIn) (View.ld g2 rOut)) (k0_pay41 (F := F)) (View.ld x2 rRow)⟩]

theorem out3_cover (p0 p1 : Vec F S512x1024 .f32) (y : S1024x1024.Idx) :
    ∃ pc ∈ ([⟨rBot, p0⟩, ⟨rTop, p1⟩] : List (View.Piece (Elt F) S1024x1024 .f32)), y ∈ pc.1.set :=
  View.cover_of_tiledL ([⟨rBot, p0⟩, ⟨rTop, p1⟩] : List (View.Piece (Elt F) S1024x1024 .f32)) S512x1024.size (by rfl) y

theorem rest_run (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole)
    (x0 : Vec F S1024x1024 .f32) (x1 x2 : Vec F S1x1024 .f32)
    (g0 : BufOf (F := F) c sc0) (g1 : BufOf (F := F) c sc1) (g2 : BufOf (F := F) c sc2) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg7 fullShare d) ∗ pt c sc0 g0 ∗ pt c sc1 g1 ∗ pt c sc2 g2
        ∗ (iprop(owns (c : Thread nD τ) arg1 fullShare x0 ∗ owns (c : Thread nD τ) arg2 fullShare x1 ∗ owns (c : Thread nD τ) arg3 fullShare x2
            ∗ owns (c : Thread nD τ) arg7 fullShare (out3 x0 x1 x2 g0 g1 g2) ∗ pt c sc0 g0 ∗ pt c sc1 g1 ∗ pt c sc2 g2) -∗ K ⟨⟩))
      ⊢ wp frame (wpE (defs₀ (F := F)) Variants.none c none) Set.univ (rest (F := F) i arg1 harg1 arg2 harg2 arg3 harg3 arg7 harg7) K := by
  unfold rest
  simp only [k0_part23_eq_skeleton]; unfold k0_part23_skel
  unfold owns pt
  iintro ⟨⟨%f0, %hf0, H0⟩, ⟨%f1, %hf1, H1⟩, ⟨%f2, %hf2, H2⟩, ⟨%d3, %f3, -, H3⟩, Hs0, Hs1, Hs2, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (out3_cover _ _)).trans ?_
    rfl
  isplitl [Hs0]; · iexact Hs0
  isplitl [Hs1]; · iexact Hs1
  iexact Hs2

end Cert.FfnIdeal.Hand
end
-- ==== Proof.FfnWeights.lean ====
/- WHAT THE COPIES LEAVE IN THE FEED-FORWARD KERNEL'S WEIGHT SCRATCHES: the weight matrices in `bf16`, the gate's halved. -/
module

public import proofs.«01_k».proof.Proof.FfnLoad
public import Idealize.ShloMosaic.Lib.Pipeline.Value

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the copies leave in the three weight scratches -/

/-- A slot of the stage read back through its own box, right after a transfer landed there through the slice squeezed. -/
theorem slot_hit {S2 : Shape} (R : Rect S6x256x1024) (hs : ∀ a, R.stride a = 1) (hq : R.shape.Squeezes S2) (hc : R.shape.ShapeCasts S2)
    (f : sc3.view.ty.Contents (Elt F)) (p : S2.Idx → Elt F .f32) :
    shapeCast S2 (View.readAt (Elt F) sc3.view R.toLoadRect
      (View.write (Elt F) (((Memref.whole cc0_scratch3).slice R hs).squeeze S2 hq).view f p Finset.univ)) hc = p :=
  View.read_write_univ (v := (((Memref.whole cc0_scratch3).slice R hs).squeeze S2 hq).view) f p

/-- A transfer into another slot is not seen. -/
theorem slot_skip {S2 T : Shape} {a b : ℕ} {n n' : Fin 3 → ℕ} (inb : ∀ x, (![a, 0, 0] : Fin 3 → ℕ) x + n x ≤ S6x256x1024.size x)
    (inb' : ∀ x, (![b, 0, 0] : Fin 3 → ℕ) x + n' x ≤ S6x256x1024.size x) (hs : ∀ x, (Rect.unit (s := S6x256x1024) ![b, 0, 0] n' inb').stride x = 1)
    (hq : (Rect.unit (s := S6x256x1024) ![b, 0, 0] n' inb').shape.Squeezes S2)
    (f : sc3.view.ty.Contents (Elt F)) (p : S2.Idx → Elt F .f32) (hab : a ≠ b) (hn : n 0 = 1) (hn' : n' 0 = 1)
    (hc : (Rect.unit (s := S6x256x1024) ![a, 0, 0] n inb).shape.ShapeCasts T) (d : T.Idx → Elt F .f32)
    (h : shapeCast T (View.readAt (Elt F) sc3.view (Rect.unit (s := S6x256x1024) ![a, 0, 0] n inb).toLoadRect f) hc = d) :
    shapeCast T (View.readAt (Elt F) sc3.view (Rect.unit (s := S6x256x1024) ![a, 0, 0] n inb).toLoadRect
        (View.write (Elt F) (((Memref.whole cc0_scratch3).slice (Rect.unit (s := S6x256x1024) ![b, 0, 0] n' inb') hs).squeeze S2 hq).view f p Finset.univ)) hc = d := by
  refine Eq.trans (congrArg (fun z => shapeCast T z hc) ?_) h
  funext j
  refine View.write_of_not_mem _ _ _ fun hm => hab ?_
  obtain ⟨y, -, hy⟩ := Finset.mem_map.mp hm
  have h0 := congrArg (fun i : S6x256x1024.Idx => (i 0).val) hy
  have e1 : ((Rect.unit (s := S6x256x1024) ![b, 0, 0] n' inb').emb (Shape.reshapeEquiv hq.numel_eq y) 0).val
      = ((Rect.unit (s := S6x256x1024) ![a, 0, 0] n inb).emb j 0).val := h0
  have hj : (j 0).val < n 0 := (j 0).isLt
  have hz : ((Shape.reshapeEquiv hq.numel_eq y : (Rect.unit (s := S6x256x1024) ![b, 0, 0] n' inb').shape.Idx) 0).val < n' 0 := Fin.isLt _
  have e2 : b + 1 * ((Shape.reshapeEquiv hq.numel_eq y : (Rect.unit (s := S6x256x1024) ![b, 0, 0] n' inb').shape.Idx) 0).val = a + 1 * (j 0).val := e1
  omega

/-- Pieces that each agree with `g` on their rectangle leave `g` wherever one of them reaches. -/
theorem read_writes_agree {sp : Space} {s : Shape} {e : EltTy} (v : View sig .tc sp s e) (f : v.ty.Contents (Elt F)) (g : s.Idx → Elt F e)
    (y : s.Idx) : ∀ L : List (View.Piece (Elt F) s e), (∀ p ∈ L, ∀ j, p.2 j = g (p.1.emb j)) → (∃ p ∈ L, y ∈ p.1.set) →
      v.read (Elt F) (v.writes (Elt F) f L) y = g y
  | [], _, h => by obtain ⟨p, hp, -⟩ := h; exact absurd hp List.not_mem_nil
  | p :: L, hg, h => by
    by_cases hy : y ∈ p.1.set
    · obtain ⟨x, hx⟩ : ∃ x, p.1.emb x = y := by
        rw [← Rect.map_emb_univ] at hy; obtain ⟨x, -, hx⟩ := Finset.mem_map.mp hy; exact ⟨x, hx⟩
      obtain ⟨r, w⟩ := p
      rw [View.read_writes_cons_hit v f r w L x y hx, ← hx]
      exact hg _ List.mem_cons_self x
    · rw [View.read_writes_cons_miss v f p L y hy]
      refine read_writes_agree v f g y L (fun q hq => hg q (List.mem_cons_of_mem _ hq)) ?_
      obtain ⟨q, hq, hyq⟩ := h
      rcases List.mem_cons.mp hq with rfl | hq
      · exact absurd hyq hy
      · exact ⟨q, hq, hyq⟩

/-- The gate weights as scratch holds them: halved, in `bf16`; the up and the down weights in `bf16`. -/
def wgOf (w : FVec F S1024x2816 .f32) : FVec F S1024x2816 .bf16 :=
  truncf .bf16 (mulf w (broadcast S1024x2816 (FloatOps.ofBits .f32 1056964608#32))) bitsLt_bf16_f32
def wuOf (w : FVec F S1024x2816 .f32) : FVec F S1024x2816 .bf16 := truncf .bf16 w bitsLt_bf16_f32
def wdOf (w : FVec F S2816x1024 .f32) : FVec F S2816x1024 .bf16 := truncf .bf16 w bitsLt_bf16_f32

theorem gate_piece {sv s : Shape} (w : FVec F S1024x2816 .f32) (v : FVec F sv .f32) (hc : sv.ShapeCasts s) (e : s.Idx → S1024x2816.Idx)
    (h : shapeCast s v hc = fun j => w (e j)) (j : s.Idx) :
    (truncf .bf16 (mulf (shapeCast s v hc : FVec F s .f32) (broadcast s (FloatOps.ofBits .f32 1056964608#32))) bitsLt_bf16_f32 : FVec F s .bf16) j = wgOf w (e j) :=
  congrArg (fun z : F .f32 => (truncf .bf16 (mulf (fun _ => z : FVec F s .f32) (broadcast s (FloatOps.ofBits .f32 1056964608#32))) bitsLt_bf16_f32 : FVec F s .bf16) j) (congrFun h j)

theorem up_piece {sv s : Shape} (w : FVec F S1024x2816 .f32) (v : FVec F sv .f32) (hc : sv.ShapeCasts s) (e : s.Idx → S1024x2816.Idx)
    (h : shapeCast s v hc = fun j => w (e j)) (j : s.Idx) :
    (truncf .bf16 ((shapeCast s v hc : FVec F s .f32)) bitsLt_bf16_f32 : FVec F s .bf16) j = wuOf w (e j) :=
  congrArg (fun z : F .f32 => (truncf .bf16 ((fun _ => z : FVec F s .f32)) bitsLt_bf16_f32 : FVec F s .bf16) j) (congrFun h j)

theorem down_piece {sv s : Shape} (w : FVec F S2816x1024 .f32) (v : FVec F sv .f32) (hc : sv.ShapeCasts s) (e : s.Idx → S2816x1024.Idx)
    (h : shapeCast s v hc = fun j => w (e j)) (j : s.Idx) :
    (truncf .bf16 ((shapeCast s v hc : FVec F s .f32)) bitsLt_bf16_f32 : FVec F s .bf16) j = wdOf w (e j) :=
  congrArg (fun z : F .f32 => (truncf .bf16 ((fun _ => z : FVec F s .f32)) bitsLt_bf16_f32 : FVec F s .bf16) j) (congrFun h j)

theorem gate_of (c : Dev nD) (f : BufOf (F := F) c sc0) (g : FVec F S1024x2816 .bf16) (L : List (View.Piece (Elt F) S1024x2816 .bf16)) (h : ∀ p ∈ L, ∀ j, p.2 j = g (p.1.emb j))
    (hc : ∀ y : S1024x2816.Idx, ∃ p ∈ L, y ∈ p.1.set) : sc0.view.writes (Elt F) f L = g :=
  funext fun y => read_writes_agree sc0.view f g y L h (hc y)

theorem up_of (c : Dev nD) (f : BufOf (F := F) c sc1) (g : FVec F S1024x2816 .bf16) (L : List (View.Piece (Elt F) S1024x2816 .bf16)) (h : ∀ p ∈ L, ∀ j, p.2 j = g (p.1.emb j))
    (hc : ∀ y : S1024x2816.Idx, ∃ p ∈ L, y ∈ p.1.set) : sc1.view.writes (Elt F) f L = g :=
  funext fun y => read_writes_agree sc1.view f g y L h (hc y)

theorem down_of (c : Dev nD) (f : BufOf (F := F) c sc2) (g : FVec F S2816x1024 .bf16) (L : List (View.Piece (Elt F) S2816x1024 .bf16)) (h : ∀ p ∈ L, ∀ j, p.2 j = g (p.1.emb j))
    (hc : ∀ y : S2816x1024.Idx, ∃ p ∈ L, y ∈ p.1.set) : sc2.view.writes (Elt F) f L = g :=
  funext fun y => read_writes_agree sc2.view f g y L h (hc y)

section
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole)
    (w1 : BufOf (F := F) c hb2) (w2 : BufOf (F := F) c hb3) (w3 : BufOf (F := F) c hb4)
    (s1 : BufOf (F := F) c sc0) (s2 : BufOf (F := F) c sc1) (s3 : BufOf (F := F) c sc2) (st : BufOf (F := F) c sc3)

theorem gate_cover (y : S1024x2816.Idx) : ∃ p ∈ (loadRun c i arg1 harg1 arg2 harg2 arg3 harg3 arg7 harg7 w1 w2 w3 s1 s2 s3 st).1.1, y ∈ p.1.set :=
  View.cover_of_tiledBy _ ![256, 256] (by sl_kernel_rfl) y
theorem up_cover (y : S1024x2816.Idx) : ∃ p ∈ (loadRun c i arg1 harg1 arg2 harg2 arg3 harg3 arg7 harg7 w1 w2 w3 s1 s2 s3 st).1.2.1, y ∈ p.1.set :=
  View.cover_of_tiledBy _ ![256, 256] (by sl_kernel_rfl) y
theorem down_cover (y : S2816x1024.Idx) : ∃ p ∈ (loadRun c i arg1 harg1 arg2 harg2 arg3 harg3 arg7 harg7 w1 w2 w3 s1 s2 s3 st).1.2.2, y ∈ p.1.set :=
  View.cover_of_tiledBy _ ![256, 1024] (by sl_kernel_rfl) y

set_option maxHeartbeats 2000000 in
theorem gate_pieces : ∀ p ∈ (loadRun c i arg1 harg1 arg2 harg2 arg3 harg3 arg7 harg7 w1 w2 w3 s1 s2 s3 st).1.1, ∀ j, p.2 j = wgOf (F := F) w1 (p.1.emb j) := by
  unfold loadRun
  repeat' (first | exact fun _ h => absurd h List.not_mem_nil | refine List.forall_mem_cons.2 ⟨?_, ?_⟩)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x768.Idx => (Rect.unit (s := S1024x2816) ![768, 2048] S256x768.size inb_S1024x2816_S256x768_768_2048).emb j) ?_ j
    unfold loadRun.sl.v324
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![768, 1024] S256x1024.size inb_S1024x2816_S256x1024_768_1024).emb j) ?_ j
    unfold loadRun.sl.v306
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![768, 0] S256x1024.size inb_S1024x2816_S256x1024_768_0).emb j) ?_ j
    unfold loadRun.sl.v288
    repeat' (first | refine slot_skip _ _ _ _ _ _ (by decide) rfl rfl _ _ ?_ | exact slot_hit _ _ _ _ _ _)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x768.Idx => (Rect.unit (s := S1024x2816) ![512, 2048] S256x768.size inb_S1024x2816_S256x768_512_2048).emb j) ?_ j
    unfold loadRun.sl.v270
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![512, 1024] S256x1024.size inb_S1024x2816_S256x1024_512_1024).emb j) ?_ j
    unfold loadRun.sl.v252
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![512, 0] S256x1024.size inb_S1024x2816_S256x1024_512_0).emb j) ?_ j
    unfold loadRun.sl.v234
    repeat' (first | refine slot_skip _ _ _ _ _ _ (by decide) rfl rfl _ _ ?_ | exact slot_hit _ _ _ _ _ _)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x768.Idx => (Rect.unit (s := S1024x2816) ![256, 2048] S256x768.size inb_S1024x2816_S256x768_256_2048).emb j) ?_ j
    unfold loadRun.sl.v216
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![256, 1024] S256x1024.size inb_S1024x2816_S256x1024_256_1024).emb j) ?_ j
    unfold loadRun.sl.v198
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![256, 0] S256x1024.size inb_S1024x2816_S256x1024_256_0).emb j) ?_ j
    unfold loadRun.sl.v180
    repeat' (first | refine slot_skip _ _ _ _ _ _ (by decide) rfl rfl _ _ ?_ | exact slot_hit _ _ _ _ _ _)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x768.Idx => (Rect.unit (s := S1024x2816) ![0, 2048] S256x768.size inb_S1024x2816_S256x768_0_2048).emb j) ?_ j
    unfold loadRun.sl.v162
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![0, 1024] S256x1024.size inb_S1024x2816_S256x1024_0_1024).emb j) ?_ j
    unfold loadRun.sl.v144
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine gate_piece (F := F) w1 _ _ (fun j : S256x1024.Idx => (Rect.unit (s := S1024x2816) ![0, 0] S256x1024.size inb_S1024x2816_S256x1024_0_0).emb j) ?_ j
    unfold loadRun.sl.v126
    repeat' (first | refine slot_skip _ _ _ _ _ _ (by decide) rfl rfl _ _ ?_ | exact slot_hit _ _ _ _ _ _)

set_option maxHeartbeats 2000000 in
theorem up_pieces : ∀ p ∈ (loadRun c i arg1 harg1 arg2 harg2 arg3 harg3 arg7 harg7 w1 w2 w3 s1 s2 s3 st).1.2.1, ∀ j, p.2 j = wuOf (F := F) w2 (p.1.emb j) := by
  unfold loadRun
  repeat' (first | exact fun _ h => absurd h List.not_mem_nil | refine List.forall_mem_cons.2 ⟨?_, ?_⟩)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x768.Idx => (Rect.unit (s := S1024x2816) ![768, 2048] S256x768.size inb_S1024x2816_S256x768_768_2048).emb j) ?_ j
    unfold loadRun.sl.v518
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![768, 1024] S256x1024.size inb_S1024x2816_S256x1024_768_1024).emb j) ?_ j
    unfold loadRun.sl.v502
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![768, 0] S256x1024.size inb_S1024x2816_S256x1024_768_0).emb j) ?_ j
    unfold loadRun.sl.v486
    repeat' (first | refine slot_skip _ _ _ _ _ _ (by decide) rfl rfl _ _ ?_ | exact slot_hit _ _ _ _ _ _)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x768.Idx => (Rect.unit (s := S1024x2816) ![512, 2048] S256x768.size inb_S1024x2816_S256x768_512_2048).emb j) ?_ j
    unfold loadRun.sl.v470
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![512, 1024] S256x1024.size inb_S1024x2816_S256x1024_512_1024).emb j) ?_ j
    unfold loadRun.sl.v454
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![512, 0] S256x1024.size inb_S1024x2816_S256x1024_512_0).emb j) ?_ j
    unfold loadRun.sl.v438
    repeat' (first | refine slot_skip _ _ _ _ _ _ (by decide) rfl rfl _ _ ?_ | exact slot_hit _ _ _ _ _ _)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x768.Idx => (Rect.unit (s := S1024x2816) ![256, 2048] S256x768.size inb_S1024x2816_S256x768_256_2048).emb j) ?_ j
    unfold loadRun.sl.v422
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![256, 1024] S256x1024.size inb_S1024x2816_S256x1024_256_1024).emb j) ?_ j
    unfold loadRun.sl.v406
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![256, 0] S256x1024.size inb_S1024x2816_S256x1024_256_0).emb j) ?_ j
    unfold loadRun.sl.v390
    repeat' (first | refine slot_skip _ _ _ _ _ _ (by decide) rfl rfl _ _ ?_ | exact slot_hit _ _ _ _ _ _)
  · intro (j : S256x768.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x768.Idx => (Rect.unit (s := S1024x2816) ![0, 2048] S256x768.size inb_S1024x2816_S256x768_0_2048).emb j) ?_ j
    unfold loadRun.sl.v374
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![0, 1024] S256x1024.size inb_S1024x2816_S256x1024_0_1024).emb j) ?_ j
    unfold loadRun.sl.v358
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine up_piece (F := F) w2 _ _ (fun j : S256x1024.Idx => (Rect.unit (s := S1024x2816) ![0, 0] S256x1024.size inb_S1024x2816_S256x1024_0_0).emb j) ?_ j
    unfold loadRun.sl.v342
    repeat' (first | refine slot_skip _ _ _ _ _ _ (by decide) rfl rfl _ _ ?_ | exact slot_hit _ _ _ _ _ _)

set_option maxHeartbeats 2000000 in
theorem down_pieces : ∀ p ∈ (loadRun c i arg1 harg1 arg2 harg2 arg3 harg3 arg7 harg7 w1 w2 w3 s1 s2 s3 st).1.2.2, ∀ j, p.2 j = wdOf (F := F) w3 (p.1.emb j) := by
  unfold loadRun
  repeat' (first | exact fun _ h => absurd h List.not_mem_nil | refine List.forall_mem_cons.2 ⟨?_, ?_⟩)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![2560, 0] S256x1024.size inb_S2816x1024_S256x1024_2560_0).emb j) ?_ j
    unfold loadRun.sl.v669
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![2304, 0] S256x1024.size inb_S2816x1024_S256x1024_2304_0).emb j) ?_ j
    unfold loadRun.sl.v658
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![2048, 0] S256x1024.size inb_S2816x1024_S256x1024_2048_0).emb j) ?_ j
    unfold loadRun.sl.v647
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![1792, 0] S256x1024.size inb_S2816x1024_S256x1024_1792_0).emb j) ?_ j
    unfold loadRun.sl.v636
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![1536, 0] S256x1024.size inb_S2816x1024_S256x1024_1536_0).emb j) ?_ j
    unfold loadRun.sl.v625
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![1280, 0] S256x1024.size inb_S2816x1024_S256x1024_1280_0).emb j) ?_ j
    unfold loadRun.sl.v614
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![1024, 0] S256x1024.size inb_S2816x1024_S256x1024_1024_0).emb j) ?_ j
    unfold loadRun.sl.v598
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![768, 0] S256x1024.size inb_S2816x1024_S256x1024_768_0).emb j) ?_ j
    unfold loadRun.sl.v582
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![512, 0] S256x1024.size inb_S2816x1024_S256x1024_512_0).emb j) ?_ j
    unfold loadRun.sl.v566
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![256, 0] S256x1024.size inb_S2816x1024_S256x1024_256_0).emb j) ?_ j
    unfold loadRun.sl.v550
    repeat' (first | refine slot_skip _ _ _ _ _ _ (by decide) rfl rfl _ _ ?_ | exact slot_hit _ _ _ _ _ _)
  · intro (j : S256x1024.Idx)
    dsimp only
    simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, shapeCast_self]
    refine down_piece (F := F) w3 _ _ (fun j : S256x1024.Idx => (Rect.unit (s := S2816x1024) ![0, 0] S256x1024.size inb_S2816x1024_S256x1024_0_0).emb j) ?_ j
    unfold loadRun.sl.v534
    repeat' (first | refine slot_skip _ _ _ _ _ _ (by decide) rfl rfl _ _ ?_ | exact slot_hit _ _ _ _ _ _)

theorem gate_left : sc0.view.writes (Elt F) s1 (loadRun c i arg1 harg1 arg2 harg2 arg3 harg3 arg7 harg7 w1 w2 w3 s1 s2 s3 st).1.1 = wgOf (F := F) w1 :=
  gate_of c s1 _ _ (gate_pieces c i arg1 harg1 arg2 harg2 arg3 harg3 arg7 harg7 w1 w2 w3 s1 s2 s3 st) (gate_cover c i arg1 harg1 arg2 harg2 arg3 harg3 arg7 harg7 w1 w2 w3 s1 s2 s3 st)

theorem up_left : sc1.view.writes (Elt F) s2 (loadRun c i arg1 harg1 arg2 harg2 arg3 harg3 arg7 harg7 w1 w2 w3 s1 s2 s3 st).1.2.1 = wuOf (F := F) w2 :=
  up_of c s2 _ _ (up_pieces c i arg1 harg1 arg2 harg2 arg3 harg3 arg7 harg7 w1 w2 w3 s1 s2 s3 st) (up_cover c i arg1 harg1 arg2 harg2 arg3 harg3 arg7 harg7 w1 w2 w3 s1 s2 s3 st)

theorem down_left : sc2.view.writes (Elt F) s3 (loadRun c i arg1 harg1 arg2 harg2 arg3 harg3 arg7 harg7 w1 w2 w3 s1 s2 s3 st).1.2.2 = wdOf (F := F) w3 :=
  down_of c s3 _ _ (down_pieces c i arg1 harg1 arg2 harg2 arg3 harg3 arg7 harg7 w1 w2 w3 s1 s2 s3 st) (down_cover c i arg1 harg1 arg2 harg2 arg3 harg3 arg7 harg7 w1 w2 w3 s1 s2 s3 st)

end

end Cert.FfnIdeal.Hand
end
-- ==== Proof.FfnFrame.lean ====
/- THE FEED-FORWARD PROGRAM'S RUN: the weights copied into scratch at the first grid point stay there at every later one. -/
module

public import proofs.«01_k».proof.Proof.FfnRest
public import proofs.«01_k».proof.Proof.FfnWeights

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain_dma (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_dma (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) h

/-! ## What the region holds between points -/

/-- The body's six DMA semaphores. -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = sems c := by
  rw [Pipeline.ownSems0_eq_of_list c osem0 [0, 1, 2, 3, 4, 5] (by decide) (by decide)]; rfl

/-- The weight matrices, which the body copies in itself. -/
def H0 : Finset (Ref sig .tc) := {main_arg2, main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hb2 (V m c main_arg2) ∗ pt c hb3 (V m c main_arg3) ∗ pt c hb4 (V m c main_arg4)) := by
  rw [BI.bigSep_eq_bigSepL_of_eq [main_arg2, main_arg3, main_arg4] (by decide) (by decide)]; rfl

/-- The three weight scratches: at anything before the first point, afterwards at the weights as the body keeps them. -/
def weights (c : Dev nD) (n : ℕ) : sProp 𝕄 :=
  if n = 0 then iprop((∃ f, pt c sc0 f) ∗ (∃ f, pt c sc1 f) ∗ (∃ f, pt c sc2 f))
  else iprop(pt c sc0 (wgOf (V m c main_arg2)) ∗ pt c sc1 (wuOf (V m c main_arg3)) ∗ pt c sc2 (wdOf (V m c main_arg4)))

/-- Between points: the scratches, the stage at anything, the generator's register, the semaphores at zero, the weight
    matrices as launched. -/
def Φ0 (c : Dev nD) (n : ℕ) : sProp 𝕄 :=
  iprop(weights m c n ∗ (∃ f, pt c sc3 f) ∗ (∃ r, prngReg c r) ∗ sems c
    ∗ pt c hb2 (V m c main_arg2) ∗ pt c hb3 (V m c main_arg3) ∗ pt c hb4 (V m c main_arg4))

theorem PhiD0_eq (c : Dev nD) :
    (Pipeline.ΦD osem0 spec0 H0 (V m) c : sProp 𝕄)
      = iprop(((∃ f, pt c sc0 f) ∗ (∃ f, pt c sc1 f) ∗ (∃ f, pt c sc2 f) ∗ (∃ f, pt c sc3 f))
          ∗ (∃ r, prngReg c r) ∗ sems c
          ∗ iprop(pt c hb2 (V m c main_arg2) ∗ pt c hb3 (V m c main_arg3) ∗ pt c hb4 (V m c main_arg4))) := by
  rw [Pipeline.ΦD_eq, scopedRest0_eq, ownSems00_eq, hbmPts0_eq]

theorem enter (c : Dev nD) : (Pipeline.ΦD osem0 spec0 H0 (V m) c : sProp 𝕄) ⊢ Φ0 m c 0 := by
  rw [PhiD0_eq]; unfold Φ0 weights; rw [if_pos rfl]
  iintro ⟨⟨A0, A1, A2, A3⟩, G, S, B2, B3, B4⟩
  isplitl [A0 A1 A2]
  · isplitl [A0]; · iexact A0
    isplitl [A1]; · iexact A1
    iexact A2
  isplitl [A3]; · iexact A3
  isplitl [G]; · iexact G
  isplitl [S]; · iexact S
  isplitl [B2]; · iexact B2
  isplitl [B3]; · iexact B3
  iexact B4

theorem leave (c : Dev nD) (n : ℕ) (hn : n ≠ 0) : (Φ0 m c n : sProp 𝕄) ⊢ Pipeline.ΦD osem0 spec0 H0 (V m) c := by
  rw [PhiD0_eq]; unfold Φ0 weights; rw [if_neg hn]
  iintro ⟨⟨A0, A1, A2⟩, A3, G, S, B2, B3, B4⟩
  isplitl [A0 A1 A2 A3]
  · isplitl [A0]; · iexists _; iexact A0
    isplitl [A1]; · iexists _; iexact A1
    isplitl [A2]; · iexists _; iexact A2
    iexact A3
  isplitl [G]; · iexact G
  isplitl [S]; · iexact S
  isplitl [B2]; · iexact B2
  isplitl [B3]; · iexact B3
  iexact B4

/-- What the body leaves in the output's block at point `t`. -/
def outAt (c : Dev nD) (t : Fin cfg0.N) : Vec F S1024x1024 .f32 :=
  out3 (iblk m c 0 t) (iblk m c 1 t) (iblk m c 2 t) (wgOf (V m c main_arg2)) (wuOf (V m c main_arg3)) (wdOf (V m c main_arg4))

/-- The proof data: the arrays as the region finds them, the inputs' blocks left in place, the output's at `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Φ0 m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := rfl
theorem before0_0 (c : Dev nD) (t : Fin cfg0.N) (d) : (dats m 0 c).before 0 t d = iblk m c 0 t := before_0_of m (dats m 0 c) rfl (fun _ => rfl) t d
theorem after0_1 (c : Dev nD) (t : Fin cfg0.N) : (dats m 0 c).after 1 t = iblk m c 1 t := rfl
theorem before0_1 (c : Dev nD) (t : Fin cfg0.N) (d) : (dats m 0 c).before 1 t d = iblk m c 1 t := before_1_of m (dats m 0 c) rfl (fun _ => rfl) t d
theorem after0_2 (c : Dev nD) (t : Fin cfg0.N) : (dats m 0 c).after 2 t = iblk m c 2 t := rfl
theorem before0_2 (c : Dev nD) (t : Fin cfg0.N) (d) : (dats m 0 c).before 2 t d = iblk m c 2 t := before_2_of m (dats m 0 c) rfl (fun _ => rfl) t d
theorem after0_3 (c : Dev nD) (t : Fin cfg0.N) : (dats m 0 c).after 3 t = outAt m c t := by dsimp only [dats]

theorem isFirst_iff : ∀ t : Fin grid0.N, isFirst (grid0.coords t) ↔ t.val = 0 := by decide

/-- The body at a point, between the scratches before it and after it. -/
theorem point_run (c : Dev nD) (t : Fin cfg0.N) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg7 : Memref sig .tc .vmem S1024x1024 .f32) (harg7 : arg7.IsWhole)
    (x0 : Vec F S1024x1024 .f32) (x1 x2 : Vec F S1x1024 .f32) (W : Waits sig Unit) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg7 fullShare d) ∗ Φ0 m c t.val ∗ owes (c : Thread nD τ) 0 W
        ∗ (iprop(owns (c : Thread nD τ) arg1 fullShare x0 ∗ owns (c : Thread nD τ) arg2 fullShare x1 ∗ owns (c : Thread nD τ) arg3 fullShare x2
            ∗ owns (c : Thread nD τ) arg7 fullShare (out3 x0 x1 x2 (wgOf (V m c main_arg2)) (wuOf (V m c main_arg3)) (wdOf (V m c main_arg4)))
            ∗ Φ0 m c (t.val + 1) ∗ (∃ W', owes (c : Thread nD τ) 0 W')) -∗ K ⟨⟩))
      ⊢ wp frame (wpE (defs₀ (F := F)) Variants.none c none) Set.univ (body (F := F) (grid0.coords t) arg1 harg1 arg2 harg2 arg3 harg3 arg7 harg7) K := by
  unfold Φ0 weights
  rw [if_neg (Nat.succ_ne_zero t.val)]
  by_cases h : t.val = 0
  · rw [if_pos h, body_first _ _ _ _ _ _ _ _ _ ((isFirst_iff t).mpr h), wp_bind]
    iintro ⟨H0, H1, H2, H3, ⟨⟨⟨%f0, A0⟩, ⟨%f1, A1⟩, ⟨%f2, A2⟩⟩, ⟨%f3, A3⟩, G, S, B2, B3, B4⟩, HW, Hk⟩
    iapply ((loadRun c (grid0.coords t) arg1 harg1 arg2 harg2 arg3 harg3 arg7 harg7 (V m c main_arg2) (V m c main_arg3) (V m c main_arg4) f0 f1 f2 f3).2 W _)
    rw [gate_left, up_left, down_left]
    isplitl [B2]; · iexact B2
    isplitl [B3]; · iexact B3
    isplitl [B4]; · iexact B4
    isplitl [A0]; · iexact A0
    isplitl [A1]; · iexact A1
    isplitl [A2]; · iexact A2
    isplitl [A3]; · iexact A3
    isplitl [S]; · iexact S
    isplitl [HW]; · iexact HW
    iintro ⟨B2, B3, B4, A0, A1, A2, A3, S, HW⟩
    iapply (rest_run c (grid0.coords t) arg1 harg1 arg2 harg2 arg3 harg3 arg7 harg7 x0 x1 x2 _ _ _ K)
    isplitl [H0]; · iexact H0
    isplitl [H1]; · iexact H1
    isplitl [H2]; · iexact H2
    isplitl [H3]; · iexact H3
    isplitl [A0]; · iexact A0
    isplitl [A1]; · iexact A1
    isplitl [A2]; · iexact A2
    iintro ⟨H0, H1, H2, H3, A0, A1, A2⟩
    iapply Hk
    isplitl [H0]; · iexact H0
    isplitl [H1]; · iexact H1
    isplitl [H2]; · iexact H2
    isplitl [H3]; · iexact H3
    isplitr [HW]
    · isplitl [A0 A1 A2]
      · isplitl [A0]; · iexact A0
        isplitl [A1]; · iexact A1
        iexact A2
      isplitl [A3]; · iexact A3
      isplitl [G]; · iexact G
      isplitl [S]; · iexact S
      isplitl [B2]; · iexact B2
      isplitl [B3]; · iexact B3
      iexact B4
    iexact HW
  · rw [if_neg h, body_later _ _ _ _ _ _ _ _ _ (fun hf => h ((isFirst_iff t).mp hf))]
    iintro ⟨H0, H1, H2, H3, ⟨⟨A0, A1, A2⟩, A3, G, S, B2, B3, B4⟩, HW, Hk⟩
    iapply (rest_run c (grid0.coords t) arg1 harg1 arg2 harg2 arg3 harg3 arg7 harg7 x0 x1 x2 _ _ _ K)
    isplitl [H0]; · iexact H0
    isplitl [H1]; · iexact H1
    isplitl [H2]; · iexact H2
    isplitl [H3]; · iexact H3
    isplitl [A0]; · iexact A0
    isplitl [A1]; · iexact A1
    isplitl [A2]; · iexact A2
    iintro ⟨H0, H1, H2, H3, A0, A1, A2⟩
    iapply Hk
    isplitl [H0]; · iexact H0
    isplitl [H1]; · iexact H1
    isplitl [H2]; · iexact H2
    isplitl [H3]; · iexact H3
    isplitr [HW]
    · isplitl [A0 A1 A2]
      · isplitl [A0]; · iexact A0
        isplitl [A1]; · iexact A1
        iexact A2
      isplitl [A3]; · iexact A3
      isplitl [G]; · iexact G
      isplitl [S]; · iexact S
      isplitl [B2]; · iexact B2
      isplitl [B3]; · iexact B3
      iexact B4
    iexists W; iexact HW

abbrev bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
abbrev bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = Φ0 m c t.val from rfl, show (dats m 0 c).Φ t.succ = Φ0 m c (t.val + 1) from rfl,
    after0_0, after0_1, after0_2, after0_3]
  unfold Dat.owesAt Pipeline.owesWithin
  rw [show (dats m 0 c).owed t.castSucc = 0 from rfl, show (dats m 0 c).owed t.succ = 0 from rfl]
  unfold outAt
  iintro ⟨HΦ, ⟨%W, -, HW⟩, ⟨%d0, H0⟩, ⟨%d1, H1⟩, ⟨%d2, H2⟩, ⟨%d3, H3⟩⟩
  iapply (point_run m c t _ _ _ _ _ _ _ _ (iblk m c 0 t) (iblk m c 1 t) (iblk m c 2 t) W _)
  isplitl [H0]; · iexact H0
  isplitl [H1]; · iexact H1
  isplitl [H2]; · iexact H2
  isplitl [H3]; · iexists _; iexact H3
  isplitl [HΦ]; · iexact HΦ
  isplitl [HW]; · iexact HW
  iintro ⟨H0, H1, H2, H3, HΦ, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain_dma m Variants.none) (hA := A_eq m)
    (hin := fun c => enter m c) (hout := fun c => leave m c _ (by decide))

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_dma m ρ (dats m) (run_main m ρ)

end Cert.FfnIdeal.Hand
end
-- ==== Proof.FfnMath.lean ====
/- ONE ROW OF THE FEED-FORWARD BLOCK at the extended reals, as the kernel computes it and as the reference writes it. The kernel's gate is
   halved and goes through a hyperbolic tangent; the reference's goes through the logistic function. They agree where the row, the first norm's
   gain and the gate's weights are real; the other operands may be infinite. -/
module

public import Idealize.ShloMosaic.Lib.Pointwise

@[expose] public section

noncomputable section

namespace Cert.FeedForward

open Idealize.ShloMosaic

/-- The constants as the programs write them: the row's length, the norm's epsilon, a half, one. -/
abbrev len : EReal := Ideal.ofBits .f32 0x44800000#32
abbrev eps : EReal := Ideal.ofBits .f32 0x358637BD#32
abbrev half : EReal := Ideal.ofBits .f32 0x3F000000#32
abbrev one : EReal := Ideal.ofBits .f32 0x3F800000#32

theorem len_eq : len = ((1024 : ℝ) : EReal) := by
  simp [len, Ideal.ofBits, Ideal.ieee]; norm_cast; norm_num
theorem half_eq : half = (((1 / 2 : ℝ)) : EReal) := by
  simp [half, Ideal.ofBits, Ideal.ieee]; norm_cast; norm_num
theorem one_eq : one = ((1 : ℝ) : EReal) := by
  simp [one, Ideal.ofBits, Ideal.ieee]; norm_cast; norm_num
theorem eps_eq : ∃ e : ℝ, 0 < e ∧ eps = (e : EReal) := by
  refine ⟨_, ?_, by simp only [eps, Ideal.ofBits, Ideal.ieee]; rw [if_neg (by decide), if_neg (by decide)]⟩
  rw [if_neg (by decide)]
  positivity

variable {n k : ℕ}

/-- The reciprocal of a row's root mean square. -/
def scale (v : Fin n → EReal) : EReal := Ideal.rsqrt (Ideal.div (∑ j, v j * v j) len + eps)

/-- The normed row times the gain. -/
def normed (x g : Fin n → EReal) (j : Fin n) : EReal := x j * scale x * g j

/-- A row times a matrix. -/
def times (h : Fin n → EReal) (W : Fin n → Fin k → EReal) (o : Fin k) : EReal := ∑ j, h j * W j o

/-- The gate through the hyperbolic tangent, and through the logistic function, each times the other branch. -/
def gated (s u : Fin k → EReal) (o : Fin k) : EReal := (s o + s o * Ideal.tanh (s o)) * u o
def gatedRef (s u : Fin k → EReal) (o : Fin k) : EReal := s o * Ideal.div one (one + Ideal.exp (-(s o))) * u o

/-- The kernel's row, with half the gate's weights and half the last gain. -/
def row (x g : Fin n → EReal) (Wg Wu : Fin n → Fin k → EReal) (Wd : Fin k → Fin n → EReal) (p : Fin n → EReal) (q : Fin n) : EReal :=
  x q + times (gated (times (normed x g) Wg) (times (normed x g) Wu)) Wd q
    * scale (times (gated (times (normed x g) Wg) (times (normed x g) Wu)) Wd) * p q

/-- The reference's row. -/
def rowRef (x g : Fin n → EReal) (Wg Wu : Fin n → Fin k → EReal) (Wd : Fin k → Fin n → EReal) (p : Fin n → EReal) (q : Fin n) : EReal :=
  x q + half * (times (gatedRef (times (normed x g) Wg) (times (normed x g) Wu)) Wd q
    * scale (times (gatedRef (times (normed x g) Wg) (times (normed x g) Wu)) Wd) * p q)

theorem coe_sum (f : Fin n → ℝ) : ∑ j, ((f j : ℝ) : EReal) = ((∑ j, f j : ℝ) : EReal) := by
  induction (Finset.univ : Finset (Fin n)) using Finset.cons_induction with
  | empty => simp
  | cons x s hx ih => rw [Finset.sum_cons, Finset.sum_cons, ih, EReal.coe_add]

/-- A real row has a real scale. -/
theorem scale_real (a : Fin n → ℝ) : ∃ r : ℝ, scale (fun j => ((a j : ℝ) : EReal)) = (r : EReal) := by
  obtain ⟨e, he, h⟩ := eps_eq
  refine ⟨(Real.sqrt ((∑ j, a j * a j) * (1 / 1024) + e))⁻¹, ?_⟩
  have hp : 0 < (∑ j, a j * a j) * (1 / 1024) + e :=
    add_pos_of_nonneg_of_pos (mul_nonneg (Finset.sum_nonneg fun j _ => mul_self_nonneg _) (by norm_num)) he
  unfold scale
  simp only [← EReal.coe_mul, coe_sum]
  rw [len_eq, h, Ideal.div_coe (by norm_num), ← EReal.coe_mul, ← EReal.coe_add, Ideal.rsqrt_coe, if_neg hp.le.not_gt, if_neg hp.ne']

theorem normed_real (a b : Fin n → ℝ) : ∃ h : Fin n → ℝ, normed (fun j => ((a j : ℝ) : EReal)) (fun j => ((b j : ℝ) : EReal)) = fun j => ((h j : ℝ) : EReal) := by
  obtain ⟨r, hr⟩ := scale_real a
  refine ⟨fun j => a j * r * b j, funext fun j => ?_⟩
  unfold normed
  rw [hr, ← EReal.coe_mul, ← EReal.coe_mul]

theorem tanh_half (s : ℝ) : s * (1 / 2) + s * (1 / 2) * Real.tanh (s * (1 / 2)) = s * (1 * (1 / (1 + Real.exp (-s)))) := by
  have e : Real.exp (-s) = Real.exp (-(s * (1 / 2))) * Real.exp (-(s * (1 / 2))) := by rw [← Real.exp_add]; congr 1; ring
  have f : Real.exp (s * (1 / 2)) * Real.exp (-(s * (1 / 2))) = 1 := by rw [← Real.exp_add]; simp
  rw [Real.tanh_eq_sinh_div_cosh, Real.sinh_eq, Real.cosh_eq, e]
  set A := Real.exp (s * (1 / 2))
  set B := Real.exp (-(s * (1 / 2)))
  have hA : 0 < A := Real.exp_pos _
  have hB : 0 < B := Real.exp_pos _
  have h1 : A + B ≠ 0 := by positivity
  have h2 : 1 + B * B ≠ 0 := by positivity
  have h3 : 1 + B * B = B * (A + B) := by rw [mul_add, mul_comm B A, f]
  rw [h3]
  field_simp
  ring_nf
  first | linear_combination (2 * s) * f | linear_combination (-2 * s) * f

theorem gate_eq (s : ℝ) (u : EReal) :
    ((((s * (1 / 2) : ℝ)) : EReal) + ((s * (1 / 2) : ℝ) : EReal) * Ideal.tanh ((s * (1 / 2) : ℝ) : EReal)) * u
      = (s : EReal) * Ideal.div one (one + Ideal.exp (-(s : EReal))) * u := by
  have h : (1 + Real.exp (-s)) ≠ 0 := by positivity
  rw [one_eq, ← EReal.coe_neg, Ideal.exp_coe, ← EReal.coe_add, Ideal.div_coe h, ← EReal.coe_mul, ← EReal.coe_mul, Ideal.tanh_coe, ← EReal.coe_mul,
    ← EReal.coe_add, tanh_half]

/-- THE TWO ROWS ARE EQUAL. -/
theorem row_eq (a b : Fin n → ℝ) (w : Fin n → Fin k → ℝ) (x g : Fin n → EReal) (Wg Wg' Wu : Fin n → Fin k → EReal) (Wd : Fin k → Fin n → EReal) (p p' : Fin n → EReal)
    (hx : x = fun j => ((a j : ℝ) : EReal)) (hg : g = fun j => ((b j : ℝ) : EReal)) (hw : Wg = fun j o => ((w j o : ℝ) : EReal))
    (hw' : ∀ j o, Wg' j o = Wg j o * half) (hp : ∀ q, p' q = half * p q) : row x g Wg' Wu Wd p' = rowRef x g Wg Wu Wd p := by
  obtain ⟨h, hh⟩ := normed_real a b
  rw [← hx, ← hg] at hh
  have key : gated (times (normed x g) Wg') (times (normed x g) Wu) = gatedRef (times (normed x g) Wg) (times (normed x g) Wu) := by
    funext o
    have e1 : times (normed x g) Wg o = ((∑ j, h j * w j o : ℝ) : EReal) := by
      unfold times; rw [hh, hw]; simp only [← EReal.coe_mul, coe_sum]
    have e2 : times (normed x g) Wg' o = (((∑ j, h j * w j o) * (1 / 2) : ℝ) : EReal) := by
      unfold times; simp only [hw']; rw [hh, hw, half_eq]; simp only [← EReal.coe_mul, coe_sum, Finset.sum_mul, mul_assoc]
    unfold gated gatedRef
    rw [e1, e2, gate_eq]
  funext q
  unfold row rowRef
  rw [key, hp]
  congr 1
  rw [mul_left_comm]

end Cert.FeedForward

end
-- ==== Proof.FfnRows.lean ====
/- WHAT THE FEED-FORWARD BODY LEAVES IN ITS BLOCK, at the extended reals, row by row. -/
module

public import proofs.«01_k».proof.Proof.FfnMath
public import proofs.«01_k».proof.Proof.FfnRest
public import Idealize.ShloMosaic.Lib.IdealHost
public import Idealize.ShloMosaic.Lib.Pipeline.ValueKit

@[expose] public section

set_option maxRecDepth 65536

noncomputable section

namespace Cert.FeedForward

open Idealize.ShloMosaic Cert.FfnIdeal Cert.FfnIdeal.Gen Cert.FfnIdeal.Hand

/-- A matrix as a function of its two coordinates; a row of one. -/
abbrev mat {a b : ℕ} (x : (⟨2, ![a, b]⟩ : Shape).Idx → EReal) : Fin a → Fin b → EReal := fun i j => x (ix2 i j)

section
variable (v : Vec Ideal S512x1024 .f32) (g p : Vec Ideal S1x1024 .f32) (Wg Wu : Vec Ideal S1024x2816 .bf16) (Wd : Vec Ideal S2816x1024 .bf16) (i : Fin 512) (q : Fin 1024)

/-- The sub-tile before the last norm. -/
theorem top_f : k0_pay39 v g Wg Wu Wd (ix2 i q) = times (gated (times (normed (mat v i) (mat g 0)) (mat Wg)) (times (normed (mat v i) (mat g 0)) (mat Wu))) (mat Wd) q := by
  pointwise [k0_pay39, k0_pay38]
  rfl

theorem bot_f : k0_pay44 v g Wg Wu Wd (ix2 i q) = times (gated (times (normed (mat v i) (mat g 0)) (mat Wg)) (times (normed (mat v i) (mat g 0)) (mat Wu))) (mat Wd) q := by
  pointwise [k0_pay44, k0_pay43]
  rfl

end

section
variable (x f : FVec Ideal S512x1024 .f32) (p : Vec Ideal S1x1024 .f32) (i : Fin 512) (q : Fin 1024)

/-- The last norm and the residual. -/
theorem bot_last : k0_pay1 x f (mulf f f) p (ix2 i q) = x (ix2 i q) + f (ix2 i q) * scale (mat f i) * p (ix2 0 q) := by
  pointwise [k0_pay1]
  rfl

end

section
variable (v : Vec Ideal S512x1024 .f32) (g p : Vec Ideal S1x1024 .f32) (Wg Wu : Vec Ideal S1024x2816 .bf16) (Wd : Vec Ideal S2816x1024 .bf16) (i : Fin 512) (q : Fin 1024)

theorem top_last : k0_pay42 (k0_pay38 v) (k0_pay39 v g Wg Wu Wd) (k0_pay40 v g Wg Wu Wd) (k0_pay41 (F := Ideal)) p (ix2 i q)
    = v (ix2 i q) + k0_pay39 v g Wg Wu Wd (ix2 i q) * scale (mat (k0_pay39 v g Wg Wu Wd) i) * p (ix2 0 q) := by
  pointwise [k0_pay42, k0_pay40, k0_pay41, k0_pay38]
  rfl

/-- A row of the upper sub-tile, and of the lower. -/
theorem top_row : k0_pay42 (k0_pay38 v) (k0_pay39 v g Wg Wu Wd) (k0_pay40 v g Wg Wu Wd) (k0_pay41 (F := Ideal)) p (ix2 i q)
    = row (mat v i) (mat g 0) (mat Wg) (mat Wu) (mat Wd) (mat p 0) q := by
  rw [top_last]
  unfold row
  rw [top_f]
  congr 3
  exact congrArg scale (funext fun j => top_f v g Wg Wu Wd i j)

theorem bot_row : k0_pay1 (k0_pay43 v) (k0_pay44 v g Wg Wu Wd) (k0_pay45 v g Wg Wu Wd) p (ix2 i q)
    = row (mat v i) (mat g 0) (mat Wg) (mat Wu) (mat Wd) (mat p 0) q := by
  refine (bot_last (k0_pay43 v) (k0_pay44 v g Wg Wu Wd) p i q).trans ?_
  unfold row
  rw [bot_f]
  have hv : k0_pay43 v = v := by unfold k0_pay43; exact shapeCast_self _ _
  rw [hv]
  congr 3
  exact congrArg scale (funext fun j => bot_f v g Wg Wu Wd i j)

end

theorem out3_apply (x0 : Vec Ideal S1024x1024 .f32) (x1 x2 : Vec Ideal S1x1024 .f32) (g0 g1 : Vec Ideal S1024x2816 .bf16) (g2 : Vec Ideal S2816x1024 .bf16)
    (r q : Fin 1024) : out3 x0 x1 x2 g0 g1 g2 (ix2 r q) = row (mat x0 r) (mat x1 0) (mat g0) (mat g1) (mat g2) (mat x2 0) q := by
  have z : (![0, 0] : Fin 2 → ℕ) = fun _ => 0 := by decide
  have e1 : View.ld x1 rRow = x1 := View.ld_unit_zero (S := S1x1024) z _ x1
  have e2 : View.ld x2 rRow = x2 := View.ld_unit_zero (S := S1x1024) z _ x2
  have e3 : View.ld g0 rIn = g0 := View.ld_unit_zero (S := S1024x2816) z _ g0
  have e4 : View.ld g1 rIn = g1 := View.ld_unit_zero (S := S1024x2816) z _ g1
  have e5 : View.ld g2 rOut = g2 := View.ld_unit_zero (S := S2816x1024) z _ g2
  unfold out3
  rw [e1, e2, e3, e4, e5]
  canon_tiles y h
  · idx_vars y
    refine (bot_row (View.ld x0 rBot) x1 x2 g0 g1 g2 y0 y1).trans ?_
    have hq : y1 = q := Fin.ext h1.symm
    have hr : mat (View.ld x0 rBot) y0 = mat x0 r := funext fun j => congrArg x0 (funext fun a => Fin.ext (by
      match a with
      | ⟨0, _⟩ => exact (show 512 + 1 * y0.val = r.val from by have : r.val = 512 + y0.val := h0; omega)
      | ⟨1, _⟩ => exact (show 0 + 1 * j.val = j.val from by omega)))
    rw [hr, hq]
  · idx_vars y
    refine (top_row (View.ld x0 rTop) x1 x2 g0 g1 g2 y0 y1).trans ?_
    have hq : y1 = q := Fin.ext h1.symm
    have hr : mat (View.ld x0 rTop) y0 = mat x0 r := funext fun j => congrArg x0 (funext fun a => Fin.ext (by
      match a with
      | ⟨0, _⟩ => exact (show 0 + 1 * y0.val = r.val from by have : r.val = y0.val := h0; omega)
      | ⟨1, _⟩ => exact (show 0 + 1 * j.val = j.val from by omega)))
    rw [hr, hq]

end Cert.FeedForward

end
-- ==== Proof.FfnArray.lean ====
/- THE FEED-FORWARD KERNEL'S RESULT ARRAY, index by index: grid point `t` computes rows `1024 t` to `1024 t + 1023`. -/
module

public import proofs.«01_k».proof.Proof.FfnFrame
public import proofs.«01_k».proof.Proof.FfnRows
public import Idealize.ShloMosaic.Lib.Pipeline.ValueKit

@[expose] public section

set_option maxRecDepth 16384

noncomputable section

namespace Cert.FeedForward.Kernel

open Idealize.ShloMosaic Idealize.ShloMosaic.TcCoe Cert.FfnIdeal Cert.FfnIdeal.Gen Cert.FfnIdeal.Hand Idealize.ShloMosaic.Tactic
open Idealize.ShloMosaic.Pipeline (Dat)

theorem point0 (t : Fin cfg0.N) : win0_0.index t = ![t.val, 0] := by revert t; decide +kernel
theorem point1 (t : Fin cfg0.N) : win0_1.index t = ![0, 0] := by revert t; decide +kernel
theorem point2 (t : Fin cfg0.N) : win0_2.index t = ![0, 0] := by revert t; decide +kernel
theorem point3 (t : Fin cfg0.N) : win0_3.index t = ![t.val, 0] := by revert t; decide +kernel

/-- The array's row that is row `r` of grid point `t`'s block. -/
def rowOf (t : Fin cfg0.N) (r : Fin 1024) : Fin 16384 := ⟨t.val * 1024 + r.val, by have : t.val < 16 := t.isLt; omega⟩

theorem read0 (x : FVec Ideal S16384x1024 .f32) (t : Fin cfg0.N) (y : S1024x1024.Idx) :
    (win0_0.blk t).view.read (Elt Ideal) x y = x (ix2 (rowOf t (y 0)) (y 1)) := by
  refine congrArg x (funext fun a => Fin.ext ?_)
  refine (Pipeline.Window.rect_emb_val win0_0 t y a).trans ?_
  rw [point0]
  match a with
  | ⟨0, _⟩ => rfl
  | ⟨1, _⟩ => exact (by omega : 0 * 1024 + (y 1).val = (y 1).val)

theorem read1 (x : FVec Ideal S1x1024 .f32) (t : Fin cfg0.N) : (win0_1.blk t).view.read (Elt Ideal) x = x := by
  funext y
  refine congrArg x (funext fun a => Fin.ext ?_)
  refine Pipeline.Window.rect_emb_val_of_index_zero win0_1 t a ?_ y
  rw [point1]
  match a with
  | ⟨0, _⟩ => rfl
  | ⟨1, _⟩ => rfl

theorem read2 (x : FVec Ideal S1x1024 .f32) (t : Fin cfg0.N) : (win0_2.blk t).view.read (Elt Ideal) x = x := by
  funext y
  refine congrArg x (funext fun a => Fin.ext ?_)
  refine Pipeline.Window.rect_emb_val_of_index_zero win0_2 t a ?_ y
  rw [point2]
  match a with
  | ⟨0, _⟩ => rfl
  | ⟨1, _⟩ => rfl

theorem emb3 (t : Fin cfg0.N) (y : S1024x1024.Idx) : (win0_3.blk t).view.emb y = ix2 (rowOf t (y 0)) (y 1) := by
  refine funext fun a => Fin.ext ?_
  refine (Pipeline.Window.rect_emb_val win0_3 t y a).trans ?_
  rw [point3]
  match a with
  | ⟨0, _⟩ => rfl
  | ⟨1, _⟩ => exact (by omega : 0 * 1024 + (y 1).val = (y 1).val)

section
variable (m : (ℓ : Loc nD τ sig) → Buf (Elt Ideal) ℓ) (c : Dev nD)

theorem V_x : V m c main_v0 = shapeCast _ (m ((c.tc : Thread nD τ).loc main_arg0)) shapeCasts_S8x2048x1024_S16384x1024 := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem V_pre : V m c main_v1 = shapeCast _ (m ((c.tc : Thread nD τ).loc main_arg1)) shapeCasts_S1024_S1x1024 := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- Half the last gain. -/
def halved (p : FVec Ideal S1024 .f32) : FVec Ideal S1x1024 .f32 :=
  mulf (broadcastInDim S1x1024 ![] bcast_S_S1x1024 (constant S_ .f32 0x3F000000#32)) (shapeCast _ p shapeCasts_S1024_S1x1024)

theorem V_post : V m c main_v4 = halved (m ((c.tc : Thread nD τ).loc main_arg5)) := by
  simp only [V, hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem flat_apply (x : FVec Ideal S8x2048x1024 .f32) (R : Fin 16384) (q : Fin 1024) :
    shapeCast S16384x1024 x shapeCasts_S8x2048x1024_S16384x1024 (ix2 R q) = x (ix3 ⟨R.val / 2048, by omega⟩ ⟨R.val % 2048, by omega⟩ q) := by
  pointwise

theorem lift_apply (g : FVec Ideal S1024 .f32) (j : Fin 1024) : shapeCast S1x1024 g shapeCasts_S1024_S1x1024 (ix2 0 j) = g (ix1 j) := by
  pointwise

theorem halved_apply (p : FVec Ideal S1024 .f32) (j : Fin 1024) : halved p (ix2 0 j) = half * p (ix1 j) := by
  pointwise [halved]

/-- The result from the six arguments. -/
def outArray (x : FVec Ideal S8x2048x1024 .f32) (g p : FVec Ideal S1024 .f32) (wg wu : FVec Ideal S1024x2816 .f32) (wd : FVec Ideal S2816x1024 .f32) :
    S16384x1024.Idx → EReal := fun i =>
  row (fun j => x (ix3 ⟨(i 0).val / 2048, by have : (i 0).val < 16384 := (i 0).isLt; omega⟩ ⟨(i 0).val % 2048, by omega⟩ j)) (fun j => g (ix1 j))
    (fun j o => wg (ix2 j o) * half) (fun j o => wu (ix2 j o)) (fun j o => wd (ix2 j o)) (fun j => half * p (ix1 j)) (i 1)

variable (t : Fin cfg0.N)

theorem x_row (r : Fin 1024) : mat (iblk m c 0 t) r = fun j => (m ((c.tc : Thread nD τ).loc main_arg0) : FVec Ideal S8x2048x1024 .f32)
    (ix3 ⟨(rowOf t r).val / 2048, by omega⟩ ⟨(rowOf t r).val % 2048, by omega⟩ j) :=
  funext fun j => (read0 (V m c main_v0) t (ix2 r j)).trans
    ((congrFun (V_x m c) (ix2 (rowOf t r) j)).trans (flat_apply _ (rowOf t r) j))

theorem pre_row : mat (iblk m c 1 t) 0 = fun j => (m ((c.tc : Thread nD τ).loc main_arg1) : FVec Ideal S1024 .f32) (ix1 j) :=
  funext fun j => (congrFun (read1 (V m c main_v1) t) (ix2 0 j)).trans ((congrFun (V_pre m c) (ix2 0 j)).trans (lift_apply _ j))

theorem post_row : mat (iblk m c 2 t) 0 = fun j => half * (m ((c.tc : Thread nD τ).loc main_arg5) : FVec Ideal S1024 .f32) (ix1 j) :=
  funext fun j => (congrFun (read2 (V m c main_v4) t) (ix2 0 j)).trans ((congrFun (V_post m c) (ix2 0 j)).trans (halved_apply _ j))

theorem out_row (r q : Fin 1024) : outAt m c t (ix2 r q)
    = outArray (m ((c.tc : Thread nD τ).loc main_arg0)) (m ((c.tc : Thread nD τ).loc main_arg1)) (m ((c.tc : Thread nD τ).loc main_arg5))
        (m ((c.tc : Thread nD τ).loc main_arg2)) (m ((c.tc : Thread nD τ).loc main_arg3)) (m ((c.tc : Thread nD τ).loc main_arg4)) (ix2 (rowOf t r) q) := by
  unfold outAt
  rw [out3_apply, x_row, pre_row, post_row, V_main_arg2, V_main_arg3, V_main_arg4]
  rfl

end

end Cert.FeedForward.Kernel

end
-- ==== Proof.FfnWhole.lean ====
/- THE FEED-FORWARD KERNEL'S RESULT ARRAY from its sixteen blocks. -/
module

public import proofs.«01_k».proof.Proof.FfnArray
public import Idealize.ShloMosaic.Lib.Pipeline.ValueKit

@[expose] public section

set_option maxRecDepth 16384

noncomputable section

namespace Cert.FeedForward.Kernel

open Idealize.ShloMosaic Idealize.ShloMosaic.TcCoe Cert.FfnIdeal Cert.FfnIdeal.Gen Cert.FfnIdeal.Hand Idealize.ShloMosaic.Tactic
open Idealize.ShloMosaic.Pipeline (Dat)

theorem covers3 : (cfg0.win 3).Covers := by decide +kernel

theorem whole3 : (cfg0.win 3).arr.IsWhole := Memref.isWhole_whole _

theorem inj3 (t : Fin cfg0.N) (y : ((cfg0.win 3).xblock (cfg0.grid.coords t)).Idx) :
    (cfg0.win 3).xinj (cfg0.grid.coords t) y = ix2 (y 0) (y 1) := by
  funext a
  match a with
  | ⟨0, _⟩ => rfl
  | ⟨1, _⟩ => rfl

/-- Any run whose blocks are the rows of `A` leaves `A`. -/
theorem filled (c : Dev nD) (D : Dat τ (Elt Ideal) Unit ℕ (Pipeline.UD sig nD τ) ℕ cfg0 c) (o : Fin cfg0.N → FVec Ideal S1024x1024 .f32) (hD : ∀ t, D.after 3 t = o t)
    (A : S16384x1024.Idx → EReal) (h : ∀ (t : Fin cfg0.N) (r q : Fin 1024), o t (ix2 r q) = A (ix2 (rowOf t r) q)) :
    D.arrAt 3 cfg0.N = A := by
  refine D.arrAt_eq_of_covers 3 A covers3 (fun t hf y => ?_) whole3
  refine (congrFun (hD t) _).trans ((congrArg (o t) (inj3 t y)).trans ((h t (y 0) (y 1)).trans ?_))
  exact congrArg A (emb3 t y).symm

theorem arr3 (m : (ℓ : Loc nD τ sig) → Buf (Elt Ideal) ℓ) (c : Dev nD) : (Cert.FfnIdeal.Hand.dats m 0 c).arrAt 3 cfg0.N
    = outArray (m ((c.tc : Thread nD τ).loc main_arg0)) (m ((c.tc : Thread nD τ).loc main_arg1)) (m ((c.tc : Thread nD τ).loc main_arg5))
        (m ((c.tc : Thread nD τ).loc main_arg2)) (m ((c.tc : Thread nD τ).loc main_arg3)) (m ((c.tc : Thread nD τ).loc main_arg4)) :=
  filled c (Cert.FfnIdeal.Hand.dats m 0 c) (outAt m c) (after0_3 m c) _ (out_row m c)

end Cert.FeedForward.Kernel

end
-- ==== Proof.FfnReference.lean ====
/- THE FEED-FORWARD REFERENCE, row by row. -/
module

public import proofs.«01_k».proof.Proof.FfnMath
public import proofs.«01_k».proof.Proof.Gen.FfnReferenceIdeal
public import proofs.«01_k».proof.Proof.Gen.FfnReferenceIdeal.Run
public import Idealize.ShloMosaic.Lib.IdealHost

@[expose] public section

set_option maxRecDepth 16384

noncomputable section

namespace Cert.FeedForward.Reference

open Idealize.ShloMosaic Idealize.ShloMosaic.TcCoe Cert.FfnReferenceIdeal Cert.FfnReferenceIdeal.Gen Idealize.ShloMosaic.Tactic

/-- A token's features normed to a root mean square of one, times a gain. -/
def norm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- A token's features times a matrix. -/
def wide (h : FVec Ideal S8x2048x1024 .f32) (w : FVec Ideal S1024x2816 .f32) : FVec Ideal S8x2048x2816 .f32 :=
  Host.dotGeneral dot_S8x2048x1024_S1024x2816_S8x2048x2816_2_0_01_1_n_n none h w

/-- The gate, through the logistic function, times the other branch. -/
def gate (s u : FVec Ideal S8x2048x2816 .f32) : FVec Ideal S8x2048x2816 .f32 :=
  mulf (mulf s (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf s))))) u

def narrow (h : FVec Ideal S8x2048x2816 .f32) (w : FVec Ideal S2816x1024 .f32) : FVec Ideal S8x2048x1024 .f32 :=
  Host.dotGeneral dot_S8x2048x2816_S2816x1024_S8x2048x1024_2_0_01_1_n_n none h w

/-- The features plus half the other term. -/
def residual (x f : FVec Ideal S8x2048x1024 .f32) : FVec Ideal S8x2048x1024 .f32 :=
  addf x (mulf (broadcastInDim S8x2048x1024 ![] bcast_S_S8x2048x1024 (constant S_ .f32 0x3F000000#32)) f)

def flat (y : FVec Ideal S8x2048x1024 .f32) : FVec Ideal S16384x1024 .f32 := shapeCast _ y shapeCasts_S8x2048x1024_S16384x1024

section
variable (x : FVec Ideal S8x2048x1024 .f32) (g p : FVec Ideal S1024 .f32) (Wg Wu : FVec Ideal S1024x2816 .f32) (Wd : FVec Ideal S2816x1024 .f32)

def inner : FVec Ideal S8x2048x1024 .f32 := narrow (gate (wide (norm x g) Wg) (wide (norm x g) Wu)) Wd
def whole : FVec Ideal S16384x1024 .f32 := flat (residual x (norm (inner x g Wg Wu Wd) p))

variable (b : Fin 8) (t : Fin 2048)

theorem norm_apply (j : Fin 1024) : norm x g (ix3 b t j) = normed (fun j => x (ix3 b t j)) (fun j => g (ix1 j)) j := by
  pointwise [norm]
  rfl

theorem wide_apply (h : FVec Ideal S8x2048x1024 .f32) (o : Fin 2816) : wide h Wg (ix3 b t o) = times (fun j => h (ix3 b t j)) (fun j o => Wg (ix2 j o)) o := by
  pointwise [wide]
  rfl

theorem narrow_apply (h : FVec Ideal S8x2048x2816 .f32) (o : Fin 1024) : narrow h Wd (ix3 b t o) = times (fun j => h (ix3 b t j)) (fun j o => Wd (ix2 j o)) o := by
  pointwise [narrow]
  rfl

theorem gate_apply (s u : FVec Ideal S8x2048x2816 .f32) (o : Fin 2816) :
    gate s u (ix3 b t o) = gatedRef (fun j => s (ix3 b t j)) (fun j => u (ix3 b t j)) o := by
  pointwise [gate]
  unfold gatedRef
  rw [one_eq]
  rfl

theorem residual_apply (f : FVec Ideal S8x2048x1024 .f32) (q : Fin 1024) : residual x f (ix3 b t q) = x (ix3 b t q) + half * f (ix3 b t q) := by
  pointwise [residual]

theorem flat_apply (y : FVec Ideal S8x2048x1024 .f32) (R : Fin 16384) (q : Fin 1024) :
    flat y (ix2 R q) = y (ix3 ⟨R.val / 2048, by omega⟩ ⟨R.val % 2048, by omega⟩ q) := by
  pointwise [flat]

theorem inner_apply (q : Fin 1024) : inner x g Wg Wu Wd (ix3 b t q)
    = times (gatedRef (times (normed (fun j => x (ix3 b t j)) (fun j => g (ix1 j))) (fun j o => Wg (ix2 j o)))
        (times (normed (fun j => x (ix3 b t j)) (fun j => g (ix1 j))) (fun j o => Wu (ix2 j o)))) (fun j o => Wd (ix2 j o)) q := by
  unfold inner
  rw [narrow_apply]
  congr 1
  funext o
  rw [gate_apply]
  congr 1 <;> (funext o; rw [wide_apply]; congr 1; funext j; exact norm_apply x g b t j)

/-- The reference's result at a row. -/
theorem whole_apply (R : Fin 16384) (q : Fin 1024) : whole x g p Wg Wu Wd (ix2 R q)
    = rowRef (fun j => x (ix3 ⟨R.val / 2048, by omega⟩ ⟨R.val % 2048, by omega⟩ j)) (fun j => g (ix1 j)) (fun j o => Wg (ix2 j o)) (fun j o => Wu (ix2 j o))
        (fun j o => Wd (ix2 j o)) (fun j => p (ix1 j)) q := by
  have h : (fun j => inner x g Wg Wu Wd (ix3 ⟨R.val / 2048, by omega⟩ ⟨R.val % 2048, by omega⟩ j)) = _ :=
    funext fun j => inner_apply x g Wg Wu Wd ⟨R.val / 2048, by omega⟩ ⟨R.val % 2048, by omega⟩ j
  unfold whole
  rw [flat_apply, residual_apply, norm_apply, h]
  rfl

end

theorem res_eq (m : (ℓ : Loc nD τ sig) → Buf (Elt Ideal) ℓ) (c : Dev nD) : Value.res_out0 m c
    = whole (m ((c.tc : Thread nD τ).loc main_arg0)) (m ((c.tc : Thread nD τ).loc main_arg1)) (m ((c.tc : Thread nD τ).loc main_arg5))
        (m ((c.tc : Thread nD τ).loc main_arg2)) (m ((c.tc : Thread nD τ).loc main_arg3)) (m ((c.tc : Thread nD τ).loc main_arg4)) := rfl

end Cert.FeedForward.Reference

end
-- ==== Proof.FfnResults.lean ====
/- THE FEED-FORWARD CLAIMS: the two programs' frames from one run, the reference's frame, and the equality of the results. -/
module

public import proofs.«01_k».proof.Proof.FfnWhole
public import proofs.«01_k».proof.Proof.FfnReference
public import proofs.«01_k».proof.Proof.Finite
public import proofs.«01_k».proof.Proof.Gen.Ffn
public import proofs.«01_k».proof.Pre_finite_ffn
public import proofs.«01_k».proof.Proof.Gen.Pre_finite_ffn
public import proofs.«01_k».proof.Defs

@[expose] public section

set_option maxRecDepth 16384

noncomputable section

namespace Cert.FeedForward.Results

open Idealize.ShloMosaic Idealize.ShloMosaic.TcCoe Idealize.SL.Sem

set_option smartUnfolding false in
/-- The printed program has the idealized one's text, so the run at bit patterns is its frame. -/
theorem kernel_frame : Cert.quiescent_Ffn := by
  intro m ρ _
  exact Cert.FfnIdeal.Hand.unchanged (F := Bits) m ρ

theorem ideal_frame : Cert.quiescent_FfnIdeal := fun m ρ _ => Cert.FfnIdeal.Hand.unchanged (F := Ideal) m ρ

theorem reference_frame : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run m ρ)

section
open Cert.FfnIdeal Cert.FfnIdeal.Gen

/-- The run with the result array named. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (Cert.FfnIdeal.Hand.dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (Cert.FfnIdeal.Hand.run_main (F := Ideal) m ρ)

end

section
open Cert.Pre_finite_ffn
variable (x : FVec Ideal S8x2048x1024 .f32) (g : FVec Ideal S1024 .f32) (wg wu : FVec Ideal S1024x2816 .f32) (wd : FVec Ideal S2816x1024 .f32) (p : FVec Ideal S1024 .f32)

theorem features_real (h : (fn x g wg wu wd p).1 = fun _ => 1#1) (i : S8x2048x1024.Idx) : x i = (((x i).toReal : ℝ) : EReal) :=
  Cert.Attention.real_of_lt (x i) (congrFun h i)

theorem gain_real (h : (fn x g wg wu wd p).2.1 = fun _ => 1#1) (i : S1024.Idx) : g i = (((g i).toReal : ℝ) : EReal) :=
  Cert.Attention.real_of_lt (g i) (congrFun h i)

theorem gate_real (h : (fn x g wg wu wd p).2.2 = fun _ => 1#1) (i : S1024x2816.Idx) : wg i = (((wg i).toReal : ℝ) : EReal) :=
  Cert.Attention.real_of_lt (wg i) (congrFun h i)

theorem results_eq (h : (fn x g wg wu wd p).1 = (fun _ => 1#1) ∧ (fn x g wg wu wd p).2.1 = (fun _ => 1#1) ∧ (fn x g wg wu wd p).2.2 = fun _ => 1#1) :
    Cert.FeedForward.Reference.whole x g p wg wu wd = Cert.FeedForward.Kernel.outArray x g p wg wu wd := by
  funext i
  obtain ⟨R, q, rfl⟩ : ∃ (R : Fin 16384) (q : Fin 1024), i = ix2 R q := ⟨i 0, i 1, eq_ix2 i⟩
  refine (Cert.FeedForward.Reference.whole_apply x g p wg wu wd R q).trans (congrFun (row_eq _ _ _ _ _ _ _ _ _ _ _
    (funext fun j => features_real x g wg wu wd p h.1 _) (funext fun j => gain_real x g wg wu wd p h.2.1 _)
    (funext fun j => funext fun o => gate_real x g wg wu wd p h.2.2 _) (fun _ _ => rfl) (fun _ => rfl)).symm q)

end

theorem same : Cert.algebraic_FfnIdeal_FfnReferenceIdeal_pre_finite_ffn := by
  intro m g m' g' hpre hargs
  refine ⟨fun c => (Cert.FfnIdeal.Hand.dats m 0 c).arrAt 3 Cert.FfnIdeal.cfg0.N, run_result m g, ?_⟩
  refine (θ_run Cert.FfnReferenceIdeal.defs _ _).mono (fun r h c => ⟨(h c).1.trans ?_, (h c).2⟩) (Cert.FfnReferenceIdeal.Value.run m' g')
  obtain ⟨e0, e1, e2, e3, e4, e5⟩ := hargs c
  refine (Cert.FeedForward.Reference.res_eq m' c).trans ?_
  rw [e0, e1, e2, e3, e4, e5]
  exact (results_eq _ _ _ _ _ _ (hpre c)).trans (Cert.FeedForward.Kernel.arr3 m c).symm

end Cert.FeedForward.Results

end
-- ==== Proof.lean ====
/- THE CLAIMS: every program's frame, the named constants, and the equality of the two results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Pre_finite_ffn
public import proofs.«01_k».proof.Proof.Results4
public import proofs.«01_k».proof.Proof.FfnResults
public import Idealize.ShloMosaic.Adequacy
public import Idealize.ShloMosaic.Init

@[expose] public section

noncomputable section

namespace Cert.Proof

open Idealize.ShloMosaic Idealize.SL.Sem

open Idealize.ShloMosaic.TcCoe

/-- The reference runs, leaves its arguments as they were, and has no semaphore. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2, Idealize.ShloMosaic.sem_eq_zero_of_no_sems (by decide) r.2⟩) (Cert.ReferenceIdeal.Value.run m ρ)

theorem claim : Cert.Claim := ⟨Cert.Kernel.Gen.facts, Cert.KernelIdeal.Gen.facts, Cert.ReferenceIdeal.Gen.facts, Cert.Ffn.Gen.facts, Cert.FfnIdeal.Gen.facts,
  Cert.FfnReferenceIdeal.Gen.facts, Cert.Pre_finite.Gen.facts, Cert.Pre_finite_ffn.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  Cert.FeedForward.Results.kernel_frame, Cert.FeedForward.Results.ideal_frame, fun m ρ _ => Cert.FeedForward.Results.ideal_frame m ρ trivial,
  Cert.FeedForward.Results.reference_frame, fun m ρ _ => Cert.FeedForward.Results.reference_frame m ρ trivial,
  ⟨IdealRules.named_const.statement Cert.KernelIdeal.κ "q_scale" .f32 0x3E0293EE#32 (((Real.log 2)⁻¹ * (11863283 / 134217728) : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩,
  by
    intro m g m' g' hpre hargs
    refine ⟨fun c => (Cert.KernelIdeal.Gen.dats m 0 c).arrAt 3 Cert.KernelIdeal.cfg0.N, fun c => (Cert.KernelIdeal.Gen.dats m 0 c).arrAt 4 Cert.KernelIdeal.cfg0.N,
      Cert.KernelIdeal.Value.run_blocks m g, ?_⟩
    refine (θ_run Cert.ReferenceIdeal.defs _ _).mono (fun r h c => ?_) (Cert.ReferenceIdeal.Value.run m' g')
    have hq := Cert.Attention.query_real _ _ _ (hpre c).1
    have hk := Cert.Attention.key_real _ _ _ (hpre c).2
    exact ⟨(h c).1.trans ((Cert.Attention.Results4.reference_out m' c _ _ _ (hargs c).1 (hargs c).2.1 (hargs c).2.2).trans
        (Cert.Attention.Results4.kernel_out m c _ _ _ hq hk rfl rfl rfl).symm),
      (h c).2.1.trans ((Cert.Attention.Results4.reference_lse m' c _ _ (hargs c).1 (hargs c).2.1).trans
        (Cert.Attention.Results4.kernel_lse m c _ _ _ hq hk rfl rfl rfl).symm), (h c).2.2⟩,
  trivial, Cert.FeedForward.Results.same⟩

end Cert.Proof

end
